-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x125x13x13 : Shape := ⟨4, ![4, 125, 13, 13]⟩
abbrev S4x2 : Shape := ⟨2, ![4, 2]⟩
abbrev S4x125x169 : Shape := ⟨3, ![4, 125, 169]⟩
abbrev S4x20x896 : Shape := ⟨3, ![4, 20, 896]⟩
abbrev S4x8x896 : Shape := ⟨3, ![4, 8, 896]⟩
abbrev S1x125x169 : Shape := ⟨3, ![1, 125, 169]⟩
abbrev S1x20x896 : Shape := ⟨3, ![1, 20, 896]⟩
abbrev S1x8x896 : Shape := ⟨3, ![1, 8, 896]⟩
abbrev S848x896 : Shape := ⟨2, ![848, 896]⟩
abbrev S24x896 : Shape := ⟨2, ![24, 896]⟩
abbrev S896x24 : Shape := ⟨2, ![896, 24]⟩
abbrev S8x896 : Shape := ⟨2, ![8, 896]⟩
abbrev S896x8 : Shape := ⟨2, ![896, 8]⟩
abbrev S1x1 : Shape := ⟨2, ![1, 1]⟩
abbrev S125x169 : Shape := ⟨2, ![125, 169]⟩
abbrev S1x169 : Shape := ⟨2, ![1, 169]⟩
abbrev S20x169 : Shape := ⟨2, ![20, 169]⟩
abbrev S169 : Shape := ⟨1, ![169]⟩
abbrev S848x1 : Shape := ⟨2, ![848, 1]⟩
abbrev S1x896 : Shape := ⟨2, ![1, 896]⟩
abbrev S848x24 : Shape := ⟨2, ![848, 24]⟩
abbrev S896 : Shape := ⟨1, ![896]⟩
abbrev S848 : Shape := ⟨1, ![848]⟩
abbrev S1x1x896 : Shape := ⟨3, ![1, 1, 896]⟩
abbrev S1 : Shape := ⟨1, ![1]⟩
abbrev S1x1x1 : Shape := ⟨3, ![1, 1, 1]⟩
abbrev S20x896 : Shape := ⟨2, ![20, 896]⟩
abbrev S4x20x845 : Shape := ⟨3, ![4, 20, 845]⟩
abbrev S4x845x20 : Shape := ⟨3, ![4, 845, 20]⟩
abbrev S4x4x845 : Shape := ⟨3, ![4, 4, 845]⟩
abbrev S4x845x4 : Shape := ⟨3, ![4, 845, 4]⟩

abbrev nBuf : Space → Nat
  | .hbm => 9
  | .vmem => 14
  | .smem => 1
  | _ => 0

abbrev bufTy : (tb : Table) → Fin (tcTables nBuf tb) → BufTy
  | .hbm, ⟨0, _⟩ => ⟨S4x125x13x13, .f32⟩
  | .hbm, ⟨1, _⟩ => ⟨S4x2, .f32⟩
  | .hbm, ⟨2, _⟩ => ⟨S4x125x169, .f32⟩
  | .hbm, ⟨3, _⟩ => ⟨S4x20x896, .f32⟩
  | .hbm, ⟨4, _⟩ => ⟨S4x8x896, .f32⟩
  | .hbm, ⟨5, _⟩ => ⟨S4x20x845, .f32⟩
  | .hbm, ⟨6, _⟩ => ⟨S4x845x20, .f32⟩
  | .hbm, ⟨7, _⟩ => ⟨S4x4x845, .f32⟩
  | .hbm, ⟨8, _⟩ => ⟨S4x845x4, .f32⟩
  | .local _ .vmem, ⟨0, _⟩ => ⟨S1x125x169, .f32⟩
  | .local _ .vmem, ⟨1, _⟩ => ⟨S1x125x169, .f32⟩
  | .local _ .vmem, ⟨2, _⟩ => ⟨S1x20x896, .f32⟩
  | .local _ .vmem, ⟨3, _⟩ => ⟨S1x20x896, .f32⟩
  | .local _ .vmem, ⟨4, _⟩ => ⟨S1x8x896, .f32⟩
  | .local _ .vmem, ⟨5, _⟩ => ⟨S1x8x896, .f32⟩
  | .local _ .vmem, ⟨6, _⟩ => ⟨S848x896, .bf16⟩
  | .local _ .vmem, ⟨7, _⟩ => ⟨S848x896, .bf16⟩
  | .local _ .vmem, ⟨8, _⟩ => ⟨S848x896, .bf16⟩
  | .local _ .vmem, ⟨9, _⟩ => ⟨S24x896, .f32⟩
  | .local _ .vmem, ⟨10, _⟩ => ⟨S896x24, .f32⟩
  | .local _ .vmem, ⟨11, _⟩ => ⟨S8x896, .f32⟩
  | .local _ .vmem, ⟨12, _⟩ => ⟨S896x8, .f32⟩
  | .local _ .vmem, ⟨13, _⟩ => ⟨S24x896, .f32⟩
  | .local _ .smem, ⟨0, _⟩ => ⟨S4x2, .f32⟩
  | _, _ => ⟨S4x125x13x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1 : Index := 1#32
  ![v2.toNat, 1]
@[reducible] def k0_t1_loop : Scf.Loop 32 :=
  let c0_i32_183 : BitVec 32 := 0#32
  let c20_i32 : BitVec 32 := 20#32
  let v533 : BitVec 32 := Scalar.addi c0_i32_183 c20_i32
  let c1_i32_184 : BitVec 32 := 1#32
  ⟨c0_i32_183, v533, c1_i32_184⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x125x169 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x20x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x125x13x13 : Shape := ⟨4, ![4, 125, 13, 13]⟩
abbrev S4x2 : Shape := ⟨2, ![4, 2]⟩
abbrev S5x2 : Shape := ⟨2, ![5, 2]⟩
abbrev S4x10x13x13 : Shape := ⟨4, ![4, 10, 13, 13]⟩
abbrev S_ : Shape := ⟨0, ![]⟩
abbrev S4x5x13x13 : Shape := ⟨4, ![4, 5, 13, 13]⟩
abbrev S4x100x13x13 : Shape := ⟨4, ![4, 100, 13, 13]⟩
abbrev S4x5x20x13x13 : Shape := ⟨5, ![4, 5, 20, 13, 13]⟩
abbrev S4x5x1x13x13 : Shape := ⟨5, ![4, 5, 1, 13, 13]⟩
abbrev S4x5x2x13x13 : Shape := ⟨5, ![4, 5, 2, 13, 13]⟩
abbrev S13 : Shape := ⟨1, ![13]⟩
abbrev S1x13 : Shape := ⟨2, ![1, 13]⟩
abbrev S13x1 : Shape := ⟨2, ![13, 1]⟩
abbrev S1x1x1x13 : Shape := ⟨4, ![1, 1, 1, 13]⟩
abbrev S1x1x13x1 : Shape := ⟨4, ![1, 1, 13, 1]⟩
abbrev S5x1 : Shape := ⟨2, ![5, 1]⟩
abbrev S5 : Shape := ⟨1, ![5]⟩
abbrev S1x5x1x1 : Shape := ⟨4, ![1, 5, 1, 1]⟩
abbrev S4x1 : Shape := ⟨2, ![4, 1]⟩
abbrev S4 : Shape := ⟨1, ![4]⟩
abbrev S4x1x1x1 : Shape := ⟨4, ![4, 1, 1, 1]⟩
abbrev S4x5x13x13x1 : Shape := ⟨5, ![4, 5, 13, 13, 1]⟩
abbrev S4x5x13x13x4 : Shape := ⟨5, ![4, 5, 13, 13, 4]⟩
abbrev S4x845x4 : Shape := ⟨3, ![4, 845, 4]⟩
abbrev S4x20x5x13x13 : Shape := ⟨5, ![4, 20, 5, 13, 13]⟩
abbrev S4x20x845 : Shape := ⟨3, ![4, 20, 845]⟩
abbrev S4x1x1 : Shape := ⟨3, ![4, 1, 1]⟩
abbrev S20 : Shape := ⟨1, ![20]⟩
abbrev S1x20x1 : Shape := ⟨3, ![1, 20, 1]⟩
abbrev S4x20x845x1 : Shape := ⟨4, ![4, 20, 845, 1]⟩
abbrev S4x20x845x2 : Shape := ⟨4, ![4, 20, 845, 2]⟩
abbrev S4x20x845x4 : Shape := ⟨4, ![4, 20, 845, 4]⟩
abbrev S4x20x1x845 : Shape := ⟨4, ![4, 20, 1, 845]⟩
abbrev S4x20x845x845 : Shape := ⟨4, ![4, 20, 845, 845]⟩
abbrev S845 : Shape := ⟨1, ![845]⟩
abbrev S4x20x1 : Shape := ⟨3, ![4, 20, 1]⟩
abbrev S1x1x845 : Shape := ⟨3, ![1, 1, 845]⟩
abbrev S4x20x845x3 : Shape := ⟨4, ![4, 20, 845, 3]⟩
abbrev S4x845x20 : Shape := ⟨3, ![4, 845, 20]⟩

abbrev nBuf : Space → Nat
  | .hbm => 325
  | .vmem => 0
  | .smem => 0
  | _ => 0

abbrev hbmTy0_0 (i : Nat) : BufTy := match i % 128 with
  | 0 => ⟨S4x125x13x13, .f32⟩
  | 1 => ⟨S4x2, .f32⟩
  | 2 => ⟨S5x2, .f32⟩
  | 3 => ⟨S4x10x13x13, .f32⟩
  | 4 => ⟨S4x10x13x13, .f32⟩
  | 5 => ⟨S4x10x13x13, .f32⟩
  | 6 => ⟨S_, .f32⟩
  | 7 => ⟨S4x10x13x13, .f32⟩
  | 8 => ⟨S4x10x13x13, .f32⟩
  | 9 => ⟨S_, .f32⟩
  | 10 => ⟨S4x10x13x13, .f32⟩
  | 11 => ⟨S4x10x13x13, .f32⟩
  | 12 => ⟨S4x10x13x13, .f32⟩
  | 13 => ⟨S4x5x13x13, .f32⟩
  | 14 => ⟨S4x5x13x13, .f32⟩
  | 15 => ⟨S4x5x13x13, .f32⟩
  | 16 => ⟨S_, .f32⟩
  | 17 => ⟨S4x5x13x13, .f32⟩
  | 18 => ⟨S4x5x13x13, .f32⟩
  | 19 => ⟨S_, .f32⟩
  | 20 => ⟨S4x5x13x13, .f32⟩
  | 21 => ⟨S4x5x13x13, .f32⟩
  | 22 => ⟨S4x100x13x13, .f32⟩
  | 23 => ⟨S4x5x20x13x13, .f32⟩
  | 24 => ⟨S_, .f32⟩
  | 25 => ⟨S4x5x13x13, .f32⟩
  | 26 => ⟨S_, .f32⟩
  | 27 => ⟨S4x5x13x13, .f32⟩
  | 28 => ⟨S4x5x13x13, .f32⟩
  | 29 => ⟨S4x5x1x13x13, .f32⟩
  | 30 => ⟨S4x5x20x13x13, .f32⟩
  | 31 => ⟨S4x5x20x13x13, .f32⟩
  | 32 => ⟨S4x5x20x13x13, .f32⟩
  | 33 => ⟨S_, .f32⟩
  | 34 => ⟨S4x5x13x13, .f32⟩
  | 35 => ⟨S4x5x1x13x13, .f32⟩
  | 36 => ⟨S4x5x20x13x13, .f32⟩
  | 37 => ⟨S4x5x20x13x13, .f32⟩
  | 38 => ⟨S4x5x1x13x13, .f32⟩
  | 39 => ⟨S4x5x20x13x13, .f32⟩
  | 40 => ⟨S4x5x20x13x13, .f32⟩
  | 41 => ⟨S4x5x2x13x13, .f32⟩
  | 42 => ⟨S4x5x2x13x13, .f32⟩
  | 43 => ⟨S13, .f32⟩
  | 44 => ⟨S1x13, .f32⟩
  | 45 => ⟨S13, .f32⟩
  | 46 => ⟨S13x1, .f32⟩
  | 47 => ⟨S4x5x1x13x13, .f32⟩
  | 48 => ⟨S4x5x13x13, .f32⟩
  | 49 => ⟨S1x1x1x13, .f32⟩
  | 50 => ⟨S4x5x13x13, .f32⟩
  | 51 => ⟨S4x5x13x13, .f32⟩
  | 52 => ⟨S_, .f32⟩
  | 53 => ⟨S4x5x13x13, .f32⟩
  | 54 => ⟨S4x5x13x13, .f32⟩
  | 55 => ⟨S4x5x1x13x13, .f32⟩
  | 56 => ⟨S4x5x13x13, .f32⟩
  | 57 => ⟨S1x1x13x1, .f32⟩
  | 58 => ⟨S4x5x13x13, .f32⟩
  | 59 => ⟨S4x5x13x13, .f32⟩
  | 60 => ⟨S_, .f32⟩
  | 61 => ⟨S4x5x13x13, .f32⟩
  | 62 => ⟨S4x5x13x13, .f32⟩
  | 63 => ⟨S5x1, .f32⟩
  | 64 => ⟨S5, .f32⟩
  | 65 => ⟨S1x5x1x1, .f32⟩
  | 66 => ⟨S4x5x1x13x13, .f32⟩
  | 67 => ⟨S4x5x13x13, .f32⟩
  | 68 => ⟨S4x5x13x13, .f32⟩
  | 69 => ⟨S4x5x13x13, .f32⟩
  | 70 => ⟨S4x5x13x13, .f32⟩
  | 71 => ⟨S_, .f32⟩
  | 72 => ⟨S4x5x13x13, .f32⟩
  | 73 => ⟨S4x5x13x13, .f32⟩
  | 74 => ⟨S5x1, .f32⟩
  | 75 => ⟨S5, .f32⟩
  | 76 => ⟨S1x5x1x1, .f32⟩
  | 77 => ⟨S4x5x1x13x13, .f32⟩
  | 78 => ⟨S4x5x13x13, .f32⟩
  | 79 => ⟨S4x5x13x13, .f32⟩
  | 80 => ⟨S4x5x13x13, .f32⟩
  | 81 => ⟨S4x5x13x13, .f32⟩
  | 82 => ⟨S_, .f32⟩
  | 83 => ⟨S4x5x13x13, .f32⟩
  | 84 => ⟨S4x5x13x13, .f32⟩
  | 85 => ⟨S4x1, .f32⟩
  | 86 => ⟨S4, .f32⟩
  | 87 => ⟨S4x1x1x1, .f32⟩
  | 88 => ⟨S4x1, .f32⟩
  | 89 => ⟨S4, .f32⟩
  | 90 => ⟨S4x1x1x1, .f32⟩
  | 91 => ⟨S_, .f32⟩
  | 92 => ⟨S4x5x13x13, .f32⟩
  | 93 => ⟨S4x5x13x13, .f32⟩
  | 94 => ⟨S4x5x13x13, .f32⟩
  | 95 => ⟨S4x5x13x13, .f32⟩
  | 96 => ⟨S4x5x13x13, .f32⟩
  | 97 => ⟨S_, .f32⟩
  | 98 => ⟨S4x5x13x13, .f32⟩
  | 99 => ⟨S4x5x13x13, .f32⟩
  | 100 => ⟨S4x5x13x13, .f32⟩
  | 101 => ⟨S4x5x13x13, .f32⟩
  | 102 => ⟨S4x5x13x13, .f32⟩
  | 103 => ⟨S_, .f32⟩
  | 104 => ⟨S4x5x13x13, .f32⟩
  | 105 => ⟨S4x5x13x13, .f32⟩
  | 106 => ⟨S4x5x13x13, .f32⟩
  | 107 => ⟨S4x5x13x13, .f32⟩
  | 108 => ⟨S4x5x13x13, .f32⟩
  | 109 => ⟨S_, .f32⟩
  | 110 => ⟨S4x5x13x13, .f32⟩
  | 111 => ⟨S4x5x13x13, .f32⟩
  | 112 => ⟨S4x5x13x13, .f32⟩
  | 113 => ⟨S4x5x13x13, .f32⟩
  | 114 => ⟨S4x5x13x13, .f32⟩
  | 115 => ⟨S4x5x13x13x1, .f32⟩
  | 116 => ⟨S4x5x13x13x1, .f32⟩
  | 117 => ⟨S4x5x13x13x1, .f32⟩
  | 118 => ⟨S4x5x13x13x1, .f32⟩
  | 119 => ⟨S4x5x13x13x4, .f32⟩
  | 120 => ⟨S4x845x4, .f32⟩
  | 121 => ⟨S4x20x5x13x13, .f32⟩
  | 122 => ⟨S4x20x845, .f32⟩
  | 123 => ⟨S_, .f32⟩
  | 124 => ⟨S4x20x845, .f32⟩
  | 125 => ⟨S4x20x845, .i1⟩
  | 126 => ⟨S_, .f32⟩
  | 127 => ⟨S_, .f32⟩
  | _ => ⟨S4x125x13x13, .f32⟩

abbrev hbmTy0_1 (i : Nat) : BufTy := match i % 128 with
  | 0 => ⟨S4x20x845, .f32⟩
  | 1 => ⟨S4x20x845, .f32⟩
  | 2 => ⟨S4x20x845, .f32⟩
  | 3 => ⟨S4x20x845, .i32⟩
  | 4 => ⟨S4x20x845, .f32⟩
  | 5 => ⟨S4x20x845, .i32⟩
  | 6 => ⟨S4, .i32⟩
  | 7 => ⟨S4x1x1, .i32⟩
  | 8 => ⟨S20, .i32⟩
  | 9 => ⟨S1x20x1, .i32⟩
  | 10 => ⟨S_, .i32⟩
  | 11 => ⟨S4x1x1, .i32⟩
  | 12 => ⟨S4x1x1, .i1⟩
  | 13 => ⟨S_, .i32⟩
  | 14 => ⟨S4x1x1, .i32⟩
  | 15 => ⟨S4x1x1, .i32⟩
  | 16 => ⟨S4x1x1, .i32⟩
  | 17 => ⟨S_, .i32⟩
  | 18 => ⟨S4x20x845, .i32⟩
  | 19 => ⟨S4x20x845, .i1⟩
  | 20 => ⟨S_, .i32⟩
  | 21 => ⟨S4x20x845, .i32⟩
  | 22 => ⟨S4x20x845, .i32⟩
  | 23 => ⟨S4x20x845, .i32⟩
  | 24 => ⟨S4x20x845, .i32⟩
  | 25 => ⟨S4x20x845x1, .i32⟩
  | 26 => ⟨S4x20x845x1, .i32⟩
  | 27 => ⟨S4x20x845x2, .i32⟩
  | 28 => ⟨S4x20x845x4, .f32⟩
  | 29 => ⟨S4x20x845x1, .f32⟩
  | 30 => ⟨S4x20x845, .f32⟩
  | 31 => ⟨S4x20x845x1, .f32⟩
  | 32 => ⟨S4x20x845, .f32⟩
  | 33 => ⟨S4x20x845x1, .f32⟩
  | 34 => ⟨S4x20x845, .f32⟩
  | 35 => ⟨S4x20x845x1, .f32⟩
  | 36 => ⟨S4x20x845, .f32⟩
  | 37 => ⟨S4x20x845, .f32⟩
  | 38 => ⟨S_, .f32⟩
  | 39 => ⟨S4x20x845, .f32⟩
  | 40 => ⟨S4x20x845, .f32⟩
  | 41 => ⟨S4x20x845, .f32⟩
  | 42 => ⟨S_, .f32⟩
  | 43 => ⟨S4x20x845, .f32⟩
  | 44 => ⟨S4x20x845, .f32⟩
  | 45 => ⟨S4x20x845, .f32⟩
  | 46 => ⟨S4x20x845x1, .f32⟩
  | 47 => ⟨S4x20x1x845, .f32⟩
  | 48 => ⟨S4x20x845x845, .f32⟩
  | 49 => ⟨S4x20x845x845, .f32⟩
  | 50 => ⟨S4x20x845x845, .f32⟩
  | 51 => ⟨S4x20x845x1, .f32⟩
  | 52 => ⟨S4x20x1x845, .f32⟩
  | 53 => ⟨S4x20x845x845, .f32⟩
  | 54 => ⟨S4x20x845x845, .f32⟩
  | 55 => ⟨S4x20x845x845, .f32⟩
  | 56 => ⟨S4x20x845x1, .f32⟩
  | 57 => ⟨S4x20x1x845, .f32⟩
  | 58 => ⟨S4x20x845x845, .f32⟩
  | 59 => ⟨S4x20x845x845, .f32⟩
  | 60 => ⟨S4x20x845x845, .f32⟩
  | 61 => ⟨S4x20x845x1, .f32⟩
  | 62 => ⟨S4x20x1x845, .f32⟩
  | 63 => ⟨S4x20x845x845, .f32⟩
  | 64 => ⟨S4x20x845x845, .f32⟩
  | 65 => ⟨S4x20x845x845, .f32⟩
  | 66 => ⟨S4x20x845x845, .f32⟩
  | 67 => ⟨S_, .f32⟩
  | 68 => ⟨S4x20x845x845, .f32⟩
  | 69 => ⟨S4x20x845x845, .f32⟩
  | 70 => ⟨S4x20x845x845, .f32⟩
  | 71 => ⟨S_, .f32⟩
  | 72 => ⟨S4x20x845x845, .f32⟩
  | 73 => ⟨S4x20x845x845, .f32⟩
  | 74 => ⟨S4x20x845x845, .f32⟩
  | 75 => ⟨S4x20x845x1, .f32⟩
  | 76 => ⟨S4x20x1x845, .f32⟩
  | 77 => ⟨S4x20x845x845, .f32⟩
  | 78 => ⟨S4x20x845x845, .f32⟩
  | 79 => ⟨S4x20x845x845, .f32⟩
  | 80 => ⟨S4x20x845x845, .f32⟩
  | 81 => ⟨S_, .f32⟩
  | 82 => ⟨S4x20x845x845, .f32⟩
  | 83 => ⟨S4x20x845x845, .f32⟩
  | 84 => ⟨S4x20x845x845, .f32⟩
  | 85 => ⟨S845, .i32⟩
  | 86 => ⟨S_, .i1⟩
  | 87 => ⟨S4x20x845, .i1⟩
  | 88 => ⟨S_, .i32⟩
  | 89 => ⟨S_, .i32⟩
  | 90 => ⟨S4x20x845x845, .f32⟩
  | 91 => ⟨S845, .i32⟩
  | 92 => ⟨S_, .i32⟩
  | 93 => ⟨S_, .i32⟩
  | 94 => ⟨S4x20x845, .i1⟩
  | 95 => ⟨S_, .i32⟩
  | 96 => ⟨S_, .i1⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S4x20x1x845, .f32⟩
  | 109 => ⟨S4x20x845, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S4x20x1, .i1⟩
  | 119 => ⟨S_, .f32⟩
  | 120 => ⟨S4x20x845, .f32⟩
  | 121 => ⟨S4x20x845, .i1⟩
  | 122 => ⟨S_, .i32⟩
  | 123 => ⟨S845, .i32⟩
  | 124 => ⟨S845, .i1⟩
  | 125 => ⟨S1x1x845, .i1⟩
  | 126 => ⟨S4x20x845, .i1⟩
  | 127 => ⟨S4x20x845, .i1⟩
  | _ => ⟨S4x125x13x13, .f32⟩

abbrev hbmTy0_2 (i : Nat) : BufTy := match i % 128 with
  | 0 => ⟨S4x20x845, .i1⟩
  | 1 => ⟨S4x20x845, .i1⟩
  | 2 => ⟨S4x20x845, .i1⟩
  | 3 => ⟨S4x20x845, .i1⟩
  | 4 => ⟨S_, .i32⟩
  | 5 => ⟨S_, .i32⟩
  | 6 => ⟨S_, .i32⟩
  | 7 => ⟨S4x1x1, .i32⟩
  | 8 => ⟨S4x1x1, .i1⟩
  | 9 => ⟨S_, .i32⟩
  | 10 => ⟨S4x1x1, .i32⟩
  | 11 => ⟨S4x1x1, .i32⟩
  | 12 => ⟨S4x1x1, .i32⟩
  | 13 => ⟨S_, .i32⟩
  | 14 => ⟨S1x20x1, .i32⟩
  | 15 => ⟨S1x20x1, .i1⟩
  | 16 => ⟨S_, .i32⟩
  | 17 => ⟨S1x20x1, .i32⟩
  | 18 => ⟨S1x20x1, .i32⟩
  | 19 => ⟨S1x20x1, .i32⟩
  | 20 => ⟨S_, .i32⟩
  | 21 => ⟨S4x20x845, .i32⟩
  | 22 => ⟨S4x20x845, .i1⟩
  | 23 => ⟨S_, .i32⟩
  | 24 => ⟨S4x20x845, .i32⟩
  | 25 => ⟨S4x20x845, .i32⟩
  | 26 => ⟨S4x20x845, .i32⟩
  | 27 => ⟨S4x20x845, .i32⟩
  | 28 => ⟨S4x20x845, .i32⟩
  | 29 => ⟨S4x20x845x1, .i32⟩
  | 30 => ⟨S4x20x845x1, .i32⟩
  | 31 => ⟨S4x20x845x1, .i32⟩
  | 32 => ⟨S4x20x845x3, .i32⟩
  | 33 => ⟨S4x20x845, .f32⟩
  | 34 => ⟨S_, .f32⟩
  | 35 => ⟨S_, .f32⟩
  | 36 => ⟨S4x20x845, .f32⟩
  | 37 => ⟨S4x20x845, .f32⟩
  | 38 => ⟨S_, .f32⟩
  | 39 => ⟨S4x20x845, .f32⟩
  | 40 => ⟨S_, .i32⟩
  | 41 => ⟨S4x1x1, .i32⟩
  | 42 => ⟨S4x1x1, .i1⟩
  | 43 => ⟨S_, .i32⟩
  | 44 => ⟨S4x1x1, .i32⟩
  | 45 => ⟨S4x1x1, .i32⟩
  | 46 => ⟨S4x1x1, .i32⟩
  | 47 => ⟨S_, .i32⟩
  | 48 => ⟨S1x20x1, .i32⟩
  | 49 => ⟨S1x20x1, .i1⟩
  | 50 => ⟨S_, .i32⟩
  | 51 => ⟨S1x20x1, .i32⟩
  | 52 => ⟨S1x20x1, .i32⟩
  | 53 => ⟨S1x20x1, .i32⟩
  | 54 => ⟨S_, .i32⟩
  | 55 => ⟨S4x20x845, .i32⟩
  | 56 => ⟨S4x20x845, .i1⟩
  | 57 => ⟨S_, .i32⟩
  | 58 => ⟨S4x20x845, .i32⟩
  | 59 => ⟨S4x20x845, .i32⟩
  | 60 => ⟨S4x20x845, .i32⟩
  | 61 => ⟨S4x20x845, .i32⟩
  | 62 => ⟨S4x20x845, .i32⟩
  | 63 => ⟨S4x20x845x1, .i32⟩
  | 64 => ⟨S4x20x845x1, .i32⟩
  | 65 => ⟨S4x20x845x1, .i32⟩
  | 66 => ⟨S4x20x845x3, .i32⟩
  | 67 => ⟨S4x20x845, .f32⟩
  | 68 => ⟨S4x845x20, .f32⟩
  | _ => ⟨S4x125x13x13, .f32⟩

abbrev hbmTy (i : Nat) : BufTy := match i / 128 with
  | 0 => hbmTy0_0 i
  | 1 => hbmTy0_1 i
  | 2 => hbmTy0_2 i
  | _ => ⟨S4x125x13x13, .f32⟩

abbrev bufTy : (tb : Table) → Fin (tcTables nBuf tb) → BufTy
  | .hbm, ⟨i, _⟩ => hbmTy i
  | _, _ => ⟨S4x125x13x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_7 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_9 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_10 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_11 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_12 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_13 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_14 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_15 : Ref sig .tc := ⟨.hbm, 123, rfl⟩
abbrev main_v105 : Ref sig .tc := ⟨.hbm, 124, rfl⟩
abbrev main_v106 : Ref sig .tc := ⟨.hbm, 125, rfl⟩
abbrev main_cst_16 : Ref sig .tc := ⟨.hbm, 126, rfl⟩
abbrev main_call0_v0 : Ref sig .tc := ⟨.hbm, 127, rfl⟩
abbrev main_call0_v1 : Ref sig .tc := ⟨.hbm, 128, rfl⟩
abbrev main_v107 : Ref sig .tc := ⟨.hbm, 129, rfl⟩
abbrev main_v108 : Ref sig .tc := ⟨.hbm, 130, rfl⟩
abbrev main_call1_v0 : Ref sig .tc := ⟨.hbm, 131, rfl⟩
abbrev main_call1_v1_0 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_c : Ref sig .tc := ⟨.hbm, 138, rfl⟩
abbrev main_v114 : Ref sig .tc := ⟨.hbm, 139, rfl⟩
abbrev main_v115 : Ref sig .tc := ⟨.hbm, 140, rfl⟩
abbrev main_c_17 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_c_18 : Ref sig .tc := ⟨.hbm, 145, rfl⟩
abbrev main_v119 : Ref sig .tc := ⟨.hbm, 146, rfl⟩
abbrev main_v120 : Ref sig .tc := ⟨.hbm, 147, rfl⟩
abbrev main_c_19 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_20 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_21 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_cst_22 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_cst_23 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_cst_24 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_c_25 : Ref sig .tc := ⟨.hbm, 214, rfl⟩
abbrev main_v181 : Ref sig .tc := ⟨.hbm, 215, rfl⟩
abbrev main_c_26 : Ref sig .tc := ⟨.hbm, 216, rfl⟩
abbrev main_c_27 : Ref sig .tc := ⟨.hbm, 217, rfl⟩
abbrev main_v182_0 : Ref sig .tc := ⟨.hbm, 218, rfl⟩
abbrev main_v182_1 : Ref sig .tc := ⟨.hbm, 219, rfl⟩
abbrev main_v182_2 : Ref sig .tc := ⟨.hbm, 220, rfl⟩
abbrev main_v182_3 : Ref sig .tc := ⟨.hbm, 221, rfl⟩
abbrev main_v182_4 : Ref sig .tc := ⟨.hbm, 222, rfl⟩
abbrev main_while0c_c_46 : Ref sig .tc := ⟨.hbm, 223, rfl⟩
abbrev main_while0c_v230 : Ref sig .tc := ⟨.hbm, 224, rfl⟩
abbrev main_while0b_c_46 : Ref sig .tc := ⟨.hbm, 225, rfl⟩
abbrev main_while0b_v230 : Ref sig .tc := ⟨.hbm, 226, rfl⟩
abbrev main_while0b_call2_c : Ref sig .tc := ⟨.hbm, 227, rfl⟩
abbrev main_while0b_call2_v0 : Ref sig .tc := ⟨.hbm, 228, rfl⟩
abbrev main_while0b_call2_v1 : Ref sig .tc := ⟨.hbm, 229, rfl⟩
abbrev main_while0b_call2_c_0 : Ref sig .tc := ⟨.hbm, 230, rfl⟩
abbrev main_while0b_call2_v2 : Ref sig .tc := ⟨.hbm, 231, rfl⟩
abbrev main_while0b_call2_v3 : Ref sig .tc := ⟨.hbm, 232, rfl⟩
abbrev main_while0b_call2_c_1 : Ref sig .tc := ⟨.hbm, 233, rfl⟩
abbrev main_while0b_call2_c_2 : Ref sig .tc := ⟨.hbm, 234, rfl⟩
abbrev main_while0b_call2_c_3 : Ref sig .tc := ⟨.hbm, 235, rfl⟩
abbrev main_while0b_call2_v4 : Ref sig .tc := ⟨.hbm, 236, rfl⟩
abbrev main_while0b_v231 : Ref sig .tc := ⟨.hbm, 237, rfl⟩
abbrev main_while0b_call3_c : Ref sig .tc := ⟨.hbm, 238, rfl⟩
abbrev main_while0b_call3_v0 : Ref sig .tc := ⟨.hbm, 239, rfl⟩
abbrev main_while0b_call3_v1 : Ref sig .tc := ⟨.hbm, 240, rfl⟩
abbrev main_while0b_call3_c_0 : Ref sig .tc := ⟨.hbm, 241, rfl⟩
abbrev main_while0b_call3_v2 : Ref sig .tc := ⟨.hbm, 242, rfl⟩
abbrev main_while0b_call3_v3 : Ref sig .tc := ⟨.hbm, 243, rfl⟩
abbrev main_while0b_call3_c_1 : Ref sig .tc := ⟨.hbm, 244, rfl⟩
abbrev main_while0b_call3_c_2 : Ref sig .tc := ⟨.hbm, 245, rfl⟩
abbrev main_while0b_v232 : Ref sig .tc := ⟨.hbm, 246, rfl⟩
abbrev main_while0b_cst_47 : Ref sig .tc := ⟨.hbm, 247, rfl⟩
abbrev main_while0b_v233 : Ref sig .tc := ⟨.hbm, 248, rfl⟩
abbrev main_while0b_v234 : Ref sig .tc := ⟨.hbm, 249, rfl⟩
abbrev main_while0b_v235 : Ref sig .tc := ⟨.hbm, 250, rfl⟩
abbrev main_while0b_v236 : Ref sig .tc := ⟨.hbm, 251, rfl⟩
abbrev main_while0b_v237 : Ref sig .tc := ⟨.hbm, 252, rfl⟩
abbrev main_while0b_v238 : Ref sig .tc := ⟨.hbm, 253, rfl⟩
abbrev main_while0b_v239 : Ref sig .tc := ⟨.hbm, 254, rfl⟩
abbrev main_while0b_v240 : Ref sig .tc := ⟨.hbm, 255, rfl⟩
abbrev main_while0b_v241 : Ref sig .tc := ⟨.hbm, 256, rfl⟩
abbrev main_while0b_v242 : Ref sig .tc := ⟨.hbm, 257, rfl⟩
abbrev main_while0b_v243 : Ref sig .tc := ⟨.hbm, 258, rfl⟩
abbrev main_while0b_v244 : Ref sig .tc := ⟨.hbm, 259, rfl⟩
abbrev main_while0b_c_48 : Ref sig .tc := ⟨.hbm, 260, rfl⟩
abbrev main_while0b_v245 : Ref sig .tc := ⟨.hbm, 261, rfl⟩
abbrev main_c_28 : Ref sig .tc := ⟨.hbm, 262, rfl⟩
abbrev main_v183 : Ref sig .tc := ⟨.hbm, 263, rfl⟩
abbrev main_v184 : Ref sig .tc := ⟨.hbm, 264, rfl⟩
abbrev main_c_29 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_c_30 : Ref sig .tc := ⟨.hbm, 269, rfl⟩
abbrev main_v188 : Ref sig .tc := ⟨.hbm, 270, rfl⟩
abbrev main_v189 : Ref sig .tc := ⟨.hbm, 271, rfl⟩
abbrev main_c_31 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_c_32 : Ref sig .tc := ⟨.hbm, 276, rfl⟩
abbrev main_v193 : Ref sig .tc := ⟨.hbm, 277, rfl⟩
abbrev main_v194 : Ref sig .tc := ⟨.hbm, 278, rfl⟩
abbrev main_c_33 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_cst_34 : Ref sig .tc := ⟨.hbm, 290, rfl⟩
abbrev main_call4_v0 : Ref sig .tc := ⟨.hbm, 291, rfl⟩
abbrev main_call4_v1 : Ref sig .tc := ⟨.hbm, 292, rfl⟩
abbrev main_v205 : Ref sig .tc := ⟨.hbm, 293, rfl⟩
abbrev main_cst_35 : Ref sig .tc := ⟨.hbm, 294, rfl⟩
abbrev main_v206 : Ref sig .tc := ⟨.hbm, 295, rfl⟩
abbrev main_c_36 : Ref sig .tc := ⟨.hbm, 296, rfl⟩
abbrev main_v207 : Ref sig .tc := ⟨.hbm, 297, rfl⟩
abbrev main_v208 : Ref sig .tc := ⟨.hbm, 298, rfl⟩
abbrev main_c_37 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_c_38 : Ref sig .tc := ⟨.hbm, 303, rfl⟩
abbrev main_v212 : Ref sig .tc := ⟨.hbm, 304, rfl⟩
abbrev main_v213 : Ref sig .tc := ⟨.hbm, 305, rfl⟩
abbrev main_c_39 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_c_40 : Ref sig .tc := ⟨.hbm, 310, rfl⟩
abbrev main_v217 : Ref sig .tc := ⟨.hbm, 311, rfl⟩
abbrev main_v218 : Ref sig .tc := ⟨.hbm, 312, rfl⟩
abbrev main_c_41 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩

abbrev nD : Nat := 1
abbrev τ : Topo := Topo.v7x

variable {F : FTy → Type} [FloatOps F]

abbrev main_while0_count : Scf.Loop 32 := ⟨0#32, 845#32, 1#32⟩
-- ==== Proof.RefRun.lean ====
/- The reference program's run: it ends, its two arguments are as they were, and each result holds what the fold of its
   operations leaves there. No operation writes an argument: each stretch lists what it writes, and the arguments are in
   none of the lists. -/
module

public import proofs.«01_k».proof.Defs
public import proofs.«01_k».proof.Proof.Gen.ReferenceIdeal.Run
public import Idealize.ShloMosaic.Lib.Quiescent

@[expose] public section

set_option maxRecDepth 16384

noncomputable section

namespace Cert.Proof.RI

open Cert.ReferenceIdeal Cert.ReferenceIdeal.Gen Cert.ReferenceIdeal.Value
open Idealize.ShloMosaic Idealize.ShloMosaic.TcCoe
open Idealize.SL.Sem
open Idealize.ShloMosaic.StableHlo

variable {F : FTy → Type} [FloatOps F]

abbrev post5_W : List (Ref sig .tc) := [main_c_28, main_v183, main_v184, main_c_29, main_v185, main_v186, main_v187, main_c_30,
  main_v188, main_v189, main_c_31, main_v190, main_v191, main_v192, main_c_32, main_v193, main_v194, main_c_33, main_v195,
  main_v196, main_v197, main_v198, main_v199, main_v200, main_v201, main_v202, main_v203, main_v204, main_cst_34]
theorem post5_writes : (hostOps0_5 : List (HloOp τ sig (Elt F))).Forall fun op =>
    op.writes ⊆ (post5_W.map (Proc.devRef (τ := τ) .tc)).toFinset :=
  StableHlo.forall_writes_sub_of_map rfl

abbrev post6_W : List (Ref sig .tc) := [main_call4_v0, main_call4_v1, main_v205]
theorem post6_writes : (hostOps0_6 : List (HloOp τ sig (Elt F))).Forall fun op =>
    op.writes ⊆ (post6_W.map (Proc.devRef (τ := τ) .tc)).toFinset :=
  StableHlo.forall_writes_sub_of_map rfl

abbrev post7_W : List (Ref sig .tc) := [main_cst_35, main_v206, main_c_36, main_v207, main_v208, main_c_37, main_v209, main_v210,
  main_v211, main_c_38, main_v212, main_v213, main_c_39, main_v214, main_v215, main_v216, main_c_40, main_v217, main_v218,
  main_c_41, main_v219, main_v220, main_v221, main_v222, main_v223, main_v224, main_v225, main_v226, main_v227, main_v228,
  main_v229]
theorem post7_writes : (hostOps0_7 : List (HloOp τ sig (Elt F))).Forall fun op =>
    op.writes ⊆ (post7_W.map (Proc.devRef (τ := τ) .tc)).toFinset :=
  StableHlo.forall_writes_sub_of_map rfl

/-- What the loop's condition and body write. -/
abbrev trip_W : List (Ref sig .tc) := condOps_W ++ while0Ops0_W ++ while0Ops0_1_W ++ while0Ops0_2_W ++ while0Ops0_3_W

/-- One trip, the condition and then the body, keeps every buffer outside the list. -/
theorem trip_keep {r : Ref sig .tc} (hr : r ∉ trip_W) (V : Valuation τ sig (Elt F)) :
    afterL bodyI (after condOps V) (Proc.devRef .tc r) = V (Proc.devRef .tc r) := by
  simp only [trip_W, List.mem_append, not_or] at hr
  obtain ⟨⟨⟨⟨h0, h1⟩, h2⟩, h3⟩, h4⟩ := hr
  simp only [bodyI, afterL_cons, afterL_nil]
  rw [after_of_writes_sub _ _ while0Ops0_3_writes h4, after_of_writes_sub _ _ while0Ops0_2_writes h3,
    after_of_writes_sub _ _ while0Ops0_1_writes h2, after_of_writes_sub _ _ while0Ops0_writes h1,
    after_of_writes_sub _ _ condOps_writes h0]

variable (m : (ℓ : Loc nD τ sig) → Buf (Elt F) ℓ)

/-- Every number of trips keeps every buffer outside the list. -/
theorem atK_keep {r : Ref sig .tc} (hr : r ∉ trip_W) (c : Dev nD) : ∀ k,
    atK m k c (Proc.devRef .tc r) = entryContents preI m c (Proc.devRef .tc r)
  | 0 => rfl
  | k + 1 => (trip_keep hr (atK m k c)).trans (atK_keep hr c k)

/-- The contents when the last stretches begin: the condition has run once more after the last trip. -/
def atExit (c : Dev nD) : Valuation τ sig (Elt F) := after condOps (atK m 845 c)

theorem atExit_keep {r : Ref sig .tc} (hr : r ∉ trip_W) (c : Dev nD) :
    atExit m c (Proc.devRef .tc r) = entryContents preI m c (Proc.devRef .tc r) := by
  have h0 : r ∉ condOps_W := fun h => hr (by simp only [trip_W, List.mem_append]; exact .inl (.inl (.inl (.inl h))))
  unfold atExit
  rw [after_of_writes_sub _ _ condOps_writes h0, atK_keep m hr c]

/-- The last stretches keep every buffer they do not write. -/
theorem post_keep {r : Ref sig .tc} (hr : r ∉ post5_W ++ post6_W ++ post7_W) (V : Valuation τ sig (Elt F)) :
    afterL postI V (Proc.devRef .tc r) = V (Proc.devRef .tc r) := by
  simp only [List.mem_append, not_or] at hr
  obtain ⟨⟨h5, h6⟩, h7⟩ := hr
  simp only [postI, afterL_cons, afterL_nil]
  rw [after_of_writes_sub _ _ post7_writes h7, after_of_writes_sub _ _ post6_writes h6, after_of_writes_sub _ _ post5_writes h5]

/-- What every buffer holds at the end. -/
theorem final_eq (c : Dev nD) (r : Ref sig .tc) :
    finalContents condOps preI bodyI postI 845 m c (Proc.devRef .tc r) = afterL postI (atExit m c) (Proc.devRef .tc r) := rfl

/-- A buffer that neither the loop nor the last stretches write holds at the end what it held when the loop began. -/
theorem final_keep {r : Ref sig .tc} (hl : r ∉ trip_W) (hp : r ∉ post5_W ++ post6_W ++ post7_W) (c : Dev nD) :
    finalContents condOps preI bodyI postI 845 m c (Proc.devRef .tc r) = entryContents preI m c (Proc.devRef .tc r) := by
  rw [final_eq, post_keep hp, atExit_keep m hl]

/-- The stretches before the loop keep what they do not write. -/
theorem entry_keep {r : Ref sig .tc} (hr : r ∉ hostOps0_W ++ hostOps0_1_W ++ hostOps0_2_W ++ hostOps0_3_W ++ hostOps0_4_W)
    (c : Dev nD) : entryContents preI m c (Proc.devRef .tc r) = m ((c.tc : Thread nD τ).loc r) := by
  simp only [List.mem_append, not_or] at hr
  obtain ⟨⟨⟨⟨h0, h1⟩, h2⟩, h3⟩, h4⟩ := hr
  simp only [entryContents, preI, afterL_cons, afterL_nil]
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- An argument: written nowhere. -/
theorem arg_keep {r : Ref sig .tc} (hr : r ∉ hostOps0_W ++ hostOps0_1_W ++ hostOps0_2_W ++ hostOps0_3_W ++ hostOps0_4_W)
    (hl : r ∉ trip_W) (hp : r ∉ post5_W ++ post6_W ++ post7_W) (c : Dev nD) :
    finalContents condOps preI bodyI postI 845 m c (Proc.devRef .tc r) = m ((c.tc : Thread nD τ).loc r) :=
  (final_keep m hl hp c).trans (entry_keep m hr c)

/-- The result of the scores: what the last stretches leave. -/
def finalProb (c : Dev nD) : FVec F S4x845x20 .f32 := afterL postI (atExit m c) (Proc.devRef .tc main_v229)

/-- The result of the boxes, computed before the loop. -/
def finalBox (c : Dev nD) : FVec F S4x845x4 .f32 := entryContents preI m c (Proc.devRef .tc main_v102)

/-- What the memory holds at the end. -/
def Ends (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_v229) = finalProb m c
  ∧ r.2.mem ((c.tc : Thread nD τ).loc main_v102) = finalBox m c

theorem run (g : Dev nD → PrngReg) :
    θ_run (defs (F := F)) (onTc (τ := τ) (main (F := F))) ⟨m, fun _ => 0, g⟩
      (fun r => Ends m r ∧ r.2.sem = fun _ => 0) :=
  (θ_run _ _ ⟨m, fun _ => 0, g⟩).mono (fun r h =>
    ⟨fun c => ⟨(h c main_arg0 rfl).trans (arg_keep m (by decide) (by decide) (by decide) c),
        (h c main_arg1 rfl).trans (arg_keep m (by decide) (by decide) (by decide) c),
        h c main_v229 rfl, (h c main_v102 rfl).trans (final_keep m (by decide) (by decide) c)⟩,
      sem_eq_zero_of_no_sems (by decide) r.2⟩) (run_fold m g)

end Cert.Proof.RI

end
-- ==== Proof.K.HaltsBits.lean ====
/-
  The `while` stops at the machine's words: a sum of zeros and ones below 2²⁴ is exact.
-/
module

public import proofs.«01_k».proof.Proof.K.Halts
public import Idealize.ShloMosaic.Lib.NatWords
public import Idealize.ShloMosaic.Lib.NatWordsOrder
public import Idealize.ShloMosaic.Lib.NatMxu

@[expose] public section

set_option maxRecDepth 16384

noncomputable section

namespace Cert.Proof.K

open Cert.Kernel Cert.Kernel.Gen
open Idealize.ShloMosaic Idealize.ShloMosaic.Bits

theorem ext_zero : natOfF32? (extf16to32 (kZero (F := Bits))) = some 0 := by
  rw [← (natOfBf16?_sound (show natOfBf16? (kZero (F := Bits)) = some 0 by decide)).2, extf_bf16OfNat 0 (by decide)]
  exact natOfF32?_f32OfNat 0 (by decide)
theorem ext_one : natOfF32? (extf16to32 (kOne (F := Bits))) = some 1 := by
  rw [← (natOfBf16?_sound (show natOfBf16? (kOne (F := Bits)) = some 1 by decide)).2, extf_bf16OfNat 1 (by decide)]
  exact natOfF32?_f32OfNat 1 (by decide)

theorem card_row : Fintype.card S1x1x896.Idx = 896 := by
  rw [Shape.card_idx]; decide

theorem marks_sum (r : FVec Bits S1x896 .bf16) (hr : Marks r) : ∃ n, n ≤ 896 ∧ total r = f32OfNat n := by
  classical
  let src : FVec Bits S1x1x896 .f32 := shapeCast S1x1x896 (extf .f32 r bitsLt_bf16_f32) shapeCasts_S1x896_S1x1x896
  have h1 : ∀ i, ∃ n, n ≤ 1 ∧ natOfF32? (src i) = some n := by
    intro i
    have hs : ∃ j, src i = extf16to32 (r j) := ⟨_, rfl⟩
    obtain ⟨j, hj⟩ := hs
    rw [hj]
    rcases hr j with h | h <;> rw [h]
    · exact ⟨0, by decide, ext_zero⟩
    · exact ⟨1, le_refl _, ext_one⟩
  choose n hn hv using h1
  have hle : ∀ j, (reduceFiber reduces_S1x1x896_S1 j).sum n ≤ 896 := by
    intro j
    calc (reduceFiber reduces_S1x1x896_S1 j).sum n ≤ (reduceFiber reduces_S1x1x896_S1 j).sum fun _ => 1 := Finset.sum_le_sum fun i _ => hn i
      _ = (reduceFiber reduces_S1x1x896_S1 j).card := by simp
      _ ≤ Fintype.card S1x1x896.Idx := Finset.card_le_univ _
      _ = 896 := card_row
  have hj : ∃ j, total r = multiReduction (F := Bits) .add [1, 2] S1 src 0x00000000#32 reduces_S1x1x896_S1 (.inl rfl) rfl j := ⟨_, rfl⟩
  obtain ⟨j, hj⟩ := hj
  refine ⟨_, hle j, ?_⟩
  rw [hj]
  exact multiReduction_add_nat _ _ _ _ n (fun i _ => hv i) (lt_of_le_of_lt (hle j) (by decide))

instance : Halts Bits := halts_of f32OfNat marks_sum fun a b ha hb =>
  cmpf32_ogt_nat (lt_of_le_of_lt ha (by decide)) (lt_of_le_of_lt hb (by decide))

end Cert.Proof.K
-- ==== Proof.KI.Label.lean ====
/-
  The suppression's last iteration of the kernel, a `while` printed as a label that calls itself. One turn reads the two
  halves of the overlap table and replaces the keep row by the row two suppression steps later (`turn`). The label's
  specification: entered on a state that `n` turns bring to a stop, it gives back the state after those `n` turns and the
  two tables as they were.
-/
module

public import proofs.«01_k».proof.Defs
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Tactic
public import Idealize.ShloMosaic.Lib.Exec

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents memref `M`'s buffer may have on core `c`, -/
abbrev At (c : Dev nD) {sp : Space} {s : Shape} {e : EltTy} (M : Memref sig .tc sp s e) : Type := Buf (Elt F) (M.view.loc (c : Thread nD τ))
/-- and that buffer held whole at `f`. -/
abbrev own (c : Dev nD) {sp : Space} {s : Shape} {e : EltTy} (M : Memref sig .tc sp s e) (f : At (F := F) c M) : sProp 𝕄 :=
  M.view.loc (c : Thread nD τ) ↦{fullShare} f

/-- The variants of the label's calls: the number of turns still to run. -/
abbrev 𝒱₀ : Variants := Variants.nat

/-- What the `while` carries: the keep row, its sum and whether to go on. -/
abbrev Carry (F : FTy → Type) [FloatOps F] : Type := FVec F S1x896 .bf16 × F .f32 × BitVec 1

/-- The two constants the label is handed. -/
abbrev kZero : F .bf16 := Scalar.ofBits .bf16 0x0000#16
abbrev kOne : F .bf16 := Scalar.ofBits .bf16 0x3F80#16

/-- One turn on the tables `sa` and `sb`; a stopped state stays. -/
def turn (sa sb : FVec F S848x896 .bf16) (x : Carry F) : Carry F :=
  if x.2.2 = 1#1 then
    (k0_pay3 kZero kOne x.1 sb sa, k0_pay4 kZero kOne x.1 sb sa, Scalar.cmpf .ogt x.2.1 (k0_pay4 kZero kOne x.1 sb sa))
  else x

theorem turn_stop (sa sb : FVec F S848x896 .bf16) (x : Carry F) (h : ¬x.2.2 = 1#1) : turn sa sb x = x := if_neg h

theorem turns_stop (sa sb : FVec F S848x896 .bf16) (x : Carry F) (h : ¬x.2.2 = 1#1) (n : ℕ) : (turn sa sb)^[n] x = x := by
  induction n with
  | zero => rfl
  | succ n ih => rw [Function.iterate_succ_apply, turn_stop sa sb x h, ih]

/-- The first table read whole. -/
theorem read_sa (f : cc0_scratch1.ty.Contents (Elt F)) :
    (Memref.whole cc0_scratch1 : Memref sig .tc _ _ _).view.readAt (Elt F) (Rect.unit (s := S848x896) ![0, 0] S848x896.size inb_S848x896_S848x896_0_0).toLoadRect f = f :=
  Memref.readAt_unit_zero (Elt F) cc0_scratch1 (off := ![0, 0]) (by decide) inb_S848x896_S848x896_0_0 f
/-- The second table read whole. -/
theorem read_sb (f : cc0_scratch2.ty.Contents (Elt F)) :
    (Memref.whole cc0_scratch2 : Memref sig .tc _ _ _).view.readAt (Elt F) (Rect.unit (s := S848x896) ![0, 0] S848x896.size inb_S848x896_S848x896_0_0).toLoadRect f = f :=
  Memref.readAt_unit_zero (Elt F) cc0_scratch2 (off := ![0, 0]) (by decide) inb_S848x896_S848x896_0_0 f

section Label

variable (c : Dev nD) (i : grid0.Coords) (k0_t1 : Fin k0_t1_loop.trips)
  (sa : Buf (Elt F) (((c : Dev nD) : Thread nD τ).loc cc0_scratch1)) (sb : Buf (Elt F) (((c : Dev nD) : Thread nD τ).loc cc0_scratch2))

/-- The two tables, held whole. -/
def tables : sProp 𝕄 :=
  iprop((((c : Thread nD τ).loc cc0_scratch1) ↦{fullShare} sa) ∗ (((c : Thread nD τ).loc cc0_scratch2) ↦{fullShare} sb))

/-- The label's specification: the tables back as they were, the state after the turns. -/
def spec (r : Carry F) : sWPT 𝕄 (Carry F) := do
  sWPT.consume (tables c sa sb)
  sWPT.produce (tables c sa sb)
  pure r

theorem spec_apply (r : Carry F) (K : Carry F → sProp 𝕄) :
    spec c sa sb r K = iprop(tables c sa sb ∗ (tables c sa sb -∗ K r)) := rfl

theorem spec_le (E : Set ℕ) :
    ∀ n (x : Carry F), ¬((turn sa sb)^[n] x).2.2 = 1#1 → ∀ K, spec c sa sb ((turn sa sb)^[n] x) K
      ⊢ wp frame (wpE (defs₀ (F := F)) 𝒱₀ (c : Thread nD τ) (some n)) E
          (defs₀ (F := F) .tc 1 ⟨i, k0_t1, Memref.whole cc0_scratch2, Memref.isWhole_whole _, kZero, kOne,
            Memref.whole cc0_scratch1, Memref.isWhole_whole _, x.1, x.2.1, x.2.2⟩) K := by
  intro n
  induction n with
  | zero =>
    intro x hx K
    rw [spec_apply]
    show _ ⊢ wp frame (wpE (defs₀ (F := F)) 𝒱₀ (c : Thread nD τ) (some 0)) E
      (cc0_while1 i k0_t1 (Memref.whole cc0_scratch2) (Memref.isWhole_whole _) kZero kOne
            (Memref.whole cc0_scratch1) (Memref.isWhole_whole _) x.1 x.2.1 x.2.2) K
    simp only [cc0_while1_eq_skeleton]; unfold cc0_while1_skel
    simp only [Function.iterate_zero, id_eq] at hx ⊢
    simp only [hx, ↓reduceIte, Prog.pure_eq_ret]
    iintro ⟨H, Hk⟩
    rw [wp_ret]; imodintro
    iapply Hk
    iexact H
  | succ n ih =>
    intro x hx K
    rw [spec_apply]
    show _ ⊢ wp frame (wpE (defs₀ (F := F)) 𝒱₀ (c : Thread nD τ) (some (n + 1))) E
      (cc0_while1 i k0_t1 (Memref.whole cc0_scratch2) (Memref.isWhole_whole _) kZero kOne
            (Memref.whole cc0_scratch1) (Memref.isWhole_whole _) x.1 x.2.1 x.2.2) K
    simp only [cc0_while1_eq_skeleton]; unfold cc0_while1_skel
    by_cases hf : x.2.2 = 1#1
    · simp only [hf, ↓reduceIte, Prog.lift, Prog.bind_op, Prog.bind_ret, Prog.pure_eq_ret]
      rw [Function.iterate_succ_apply] at hx ⊢
      unfold tables
      iintro ⟨⟨Ha, Hb⟩, Hk⟩
      iapply (wp_load 𝒱₀ (c : Thread nD τ) (some (n + 1)) E (m := Memref.whole cc0_scratch2) (Finset.subset_univ _)) $$ Hb; iintro Hb
      iapply (wp_load 𝒱₀ (c : Thread nD τ) (some (n + 1)) E (m := Memref.whole cc0_scratch1) (Finset.subset_univ _)) $$ Ha; iintro Ha
      rw [read_sa, read_sb]
      have et : turn sa sb x = (k0_pay3 kZero kOne x.1 sb sa, k0_pay4 kZero kOne x.1 sb sa, Scalar.cmpf .ogt x.2.1 (k0_pay4 kZero kOne x.1 sb sa)) := if_pos hf
      have hi := ih (turn sa sb x) hx
      rw [et] at hi hx ⊢
      iapply (wp_call_spec 𝒱₀ (c : Thread nD τ) (some (n + 1)) E (spec c sa sb _) n
        (fun u hu => by cases hu; exact Nat.lt_succ_self n) hi)
      rw [spec_apply]; unfold tables
      isplitl [Ha Hb]
      · isplitl [Ha]; · iexact Ha
        iexact Hb
      iintro ⟨Ha, Hb⟩
      rw [wp_ret]; imodintro
      iapply Hk
      isplitl [Ha]; · iexact Ha
      iexact Hb
    · rw [turns_stop sa sb x hf]
      simp only [hf, ↓reduceIte, Prog.pure_eq_ret]
      iintro ⟨H, Hk⟩
      rw [wp_ret]; imodintro
      iapply Hk
      iexact H

end Label

end Cert.Proof.KI

end
-- ==== Proof.KI.Loop.lean ====
/-
  The kernel's loop over the classes. One trip reads the class's scores as a row and as a column, splits the overlap table
  by the order of the scores, runs the suppression to its stop and puts the kept scores into the class's row of the result.
  The loop's invariant: the overlap table and the scores stay, the rows of the classes done hold the kept scores, the two
  halves of the table hold anything.
-/
module

public import proofs.«01_k».proof.Proof.KI.Label
public import Idealize.ShloMosaic.Lib.Pointwise
public import Idealize.ShloMosaic.Lib.WordCmp
public import Idealize.ShloMosaic.Lib.Affine

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### One class, as values -/

section Values

variable (v490 : IVec S848x1 32) (v491 : IVec S1x896 32) (v531 : IVec S24x896 32) (v532 : IVec S848x24 32)
  (g5 : Vec F S848x896 .bf16) (g8 : Vec F S24x896 .f32) (g9 : Vec F S848x24 .f32) (k : Fin k0_t1_loop.trips)

/-- The overlap table's entries whose row outranks their column, -/
abbrev saOf : FVec F S848x896 .bf16 := k0_pay7 v490 v491 v531 v532 0#32 1#32 k g8 g9 g5
/-- and the others. -/
abbrev sbOf : FVec F S848x896 .bf16 := k0_pay8 v490 v491 v531 v532 0#32 1#32 k g8 g9 g5

/-- What the `while` starts from on the tables `sa` and `sb`. -/
def entry (sa sb : FVec F S848x896 .bf16) : Carry F :=
  (k0_pay106 (k0_pay9 sb sa sb sa) sb sa, k0_pay107 (k0_pay9 sb sa sb sa) sb sa, 1#1)

/-- The state the `while` stops in. -/
def stopped (sa sb : FVec F S848x896 .bf16) : Carry F := (turn sa sb)^[900] (entry sa sb)

/-- The result's block after the class, from the block before it. -/
def classDone (old : Vec F S24x896 .f32) : FVec F S24x896 .f32 :=
  k0_pay108 (Scf.iv 0#32 1#32 k) (k0_pay5 v531 0#32 1#32 k g8)
    (stopped (saOf v490 v491 v531 v532 g5 g8 g9 k) (sbOf v490 v491 v531 v532 g5 g8 g9 k)).1 old

/-- The block nothing has been put in. -/
abbrev blank : Vec F S24x896 .f32 := broadcast S24x896 (Scalar.ofBits .f32 0x00000000#32)

/-- The rows of the classes below `n` are done. -/
def RowsDone (n : ℕ) (f : Vec F S24x896 .f32) : Prop :=
  ∀ k : Fin k0_t1_loop.trips, k.val < n → ∀ j : S24x896.Idx, (j 0).val = k.val →
    f j = classDone v490 v491 v531 v532 g5 g8 g9 k blank j

end Values

/-- Every stop is reached: the sums the `while` compares fall at each turn but the last. -/
class Halts (F : FTy → Type) [FloatOps F] : Prop where
  halts : ∀ sa sb : FVec F S848x896 .bf16, ¬(stopped sa sb).2.2 = 1#1

theorem iv_eq (k : Fin k0_t1_loop.trips) : Scf.iv 0#32 1#32 k = BitVec.ofNat 32 k.val := by
  simp [Scf.iv]

theorem trips_eq : k0_t1_loop.trips = 20 := by decide

/-- The mark of the class's row. -/
theorem mark_eq (a b : ℕ) (ha : a < 24) (hb : b < 20) : (IntOp.cmpi .eq (BitVec.ofNat 32 a) (BitVec.ofNat 32 b) = 1#1) ↔ a = b := by
  rw [IntOp.cmpi_eq, WordCmp.ofNat_eq_ofNat_iff (by omega) (by omega)]

theorem pay108_miss (k : Fin k0_t1_loop.trips) (s : FVec F S1x896 .f32) (x : FVec F S1x896 .bf16) (old : Vec F S24x896 .f32)
    (j : S24x896.Idx) (h : (j 0).val ≠ k.val) : k0_pay108 (Scf.iv 0#32 1#32 k) s x old j = old j := by
  unfold k0_pay108
  rw [iv_eq]
  have hk : k.val < 20 := trips_eq ▸ k.isLt
  have hj : (j 0).val < 24 := (j 0).isLt
  idx_vars j
  pointwise
  exact if_neg (fun e => h ((mark_eq _ _ hj hk).mp e))

theorem pay108_hit (k : Fin k0_t1_loop.trips) (s : FVec F S1x896 .f32) (x : FVec F S1x896 .bf16) (old old' : Vec F S24x896 .f32)
    (j : S24x896.Idx) (h : (j 0).val = k.val) :
    k0_pay108 (Scf.iv 0#32 1#32 k) s x old j = k0_pay108 (Scf.iv 0#32 1#32 k) s x old' j := by
  unfold k0_pay108
  rw [iv_eq]
  have hk : k.val < 20 := trips_eq ▸ k.isLt
  have hj : (j 0).val < 24 := (j 0).isLt
  idx_vars j
  pointwise
  exact (if_pos ((mark_eq _ _ hj hk).mpr h)).trans (if_pos ((mark_eq _ _ hj hk).mpr h)).symm

section Rows

variable (v490 : IVec S848x1 32) (v491 : IVec S1x896 32) (v531 : IVec S24x896 32) (v532 : IVec S848x24 32)
    (g5 : Vec F S848x896 .bf16) (g8 : Vec F S24x896 .f32) (g9 : Vec F S848x24 .f32)

/-- The result's block after the first `n` classes, from the block `f`. -/
def resAt (f : Vec F S24x896 .f32) : ℕ → Vec F S24x896 .f32
  | 0 => f
  | n + 1 => if h : n < k0_t1_loop.trips then classDone v490 v491 v531 v532 g5 g8 g9 ⟨n, h⟩ (resAt f n) else resAt f n

theorem resAt_succ (f : Vec F S24x896 .f32) (k : Fin k0_t1_loop.trips) :
    resAt v490 v491 v531 v532 g5 g8 g9 f (k.val + 1) = classDone v490 v491 v531 v532 g5 g8 g9 k (resAt v490 v491 v531 v532 g5 g8 g9 f k.val) :=
  dif_pos k.isLt

/-- One more row done. -/
theorem rowsDone_succ (k : Fin k0_t1_loop.trips) (f : Vec F S24x896 .f32)
    (h : RowsDone v490 v491 v531 v532 g5 g8 g9 k.val f) :
    RowsDone v490 v491 v531 v532 g5 g8 g9 (k.val + 1) (classDone v490 v491 v531 v532 g5 g8 g9 k f) := by
  intro k' hk' j hj
  by_cases e : k'.val = k.val
  · obtain rfl : k' = k := Fin.ext e
    exact pay108_hit _ _ _ _ _ _ hj
  · refine (pay108_miss k _ _ f j (fun e' => e (hj.symm.trans e'))).trans (h k' (by omega) j hj)

/-- The rows done do not depend on the block the loop started from. -/
theorem rowsDone_resAt (f : Vec F S24x896 .f32) : ∀ n, n ≤ k0_t1_loop.trips → RowsDone v490 v491 v531 v532 g5 g8 g9 n (resAt v490 v491 v531 v532 g5 g8 g9 f n)
  | 0, _ => fun _ h => absurd h (Nat.not_lt_zero _)
  | n + 1, hn => by
    rw [resAt_succ v490 v491 v531 v532 g5 g8 g9 f ⟨n, hn⟩]
    exact rowsDone_succ v490 v491 v531 v532 g5 g8 g9 ⟨n, hn⟩ _ (rowsDone_resAt f n (Nat.le_of_succ_le hn))

end Rows

/-- The overlap table read whole, -/
theorem read_ov (f : cc0_scratch0.ty.Contents (Elt F)) :
    (Memref.whole cc0_scratch0 : Memref sig .tc _ _ _).view.readAt (Elt F) (Rect.unit (s := S848x896) ![0, 0] S848x896.size inb_S848x896_S848x896_0_0).toLoadRect f = f :=
  Memref.readAt_unit_zero (Elt F) cc0_scratch0 (off := ![0, 0]) (by decide) inb_S848x896_S848x896_0_0 f
/-- the scores, -/
theorem read_sc (f : cc0_scratch3.ty.Contents (Elt F)) :
    (Memref.whole cc0_scratch3 : Memref sig .tc _ _ _).view.readAt (Elt F) (Rect.unit (s := S24x896) ![0, 0] S24x896.size inb_S24x896_S24x896_0_0).toLoadRect f = f :=
  Memref.readAt_unit_zero (Elt F) cc0_scratch3 (off := ![0, 0]) (by decide) inb_S24x896_S24x896_0_0 f
/-- and the result's block. -/
theorem read_res (f : cc0_scratch7.ty.Contents (Elt F)) :
    (Memref.whole cc0_scratch7 : Memref sig .tc _ _ _).view.readAt (Elt F) (Rect.unit (s := S24x896) ![0, 0] S24x896.size inb_S24x896_S24x896_0_0).toLoadRect f = f :=
  Memref.readAt_unit_zero (Elt F) cc0_scratch7 (off := ![0, 0]) (by decide) inb_S24x896_S24x896_0_0 f

/-- The first table overwritten whole, -/
theorem put_sa (f w : cc0_scratch1.ty.Contents (Elt F)) :
    (Memref.whole cc0_scratch1 : Memref sig .tc _ _ _).view.writes (Elt F) f [⟨(Rect.unit (s := S848x896) ![0, 0] S848x896.size inb_S848x896_S848x896_0_0), w⟩] = w :=
  Memref.write_access_unit_zero_univ (Elt F) cc0_scratch1 (off := ![0, 0]) (by decide) inb_S848x896_S848x896_0_0 f w
/-- the second, -/
theorem put_sb (f w : cc0_scratch2.ty.Contents (Elt F)) :
    (Memref.whole cc0_scratch2 : Memref sig .tc _ _ _).view.writes (Elt F) f [⟨(Rect.unit (s := S848x896) ![0, 0] S848x896.size inb_S848x896_S848x896_0_0), w⟩] = w :=
  Memref.write_access_unit_zero_univ (Elt F) cc0_scratch2 (off := ![0, 0]) (by decide) inb_S848x896_S848x896_0_0 f w
/-- the result's block. -/
theorem put_res (f w : cc0_scratch7.ty.Contents (Elt F)) :
    (Memref.whole cc0_scratch7 : Memref sig .tc _ _ _).view.writes (Elt F) f [⟨(Rect.unit (s := S24x896) ![0, 0] S24x896.size inb_S24x896_S24x896_0_0), w⟩] = w :=
  Memref.write_access_unit_zero_univ (Elt F) cc0_scratch7 (off := ![0, 0]) (by decide) inb_S24x896_S24x896_0_0 f w

/-- The label's call from the class's trip. -/
theorem spec_entry [Halts F] (c : Dev nD) (i : grid0.Coords) (k : Fin k0_t1_loop.trips) (sa sb : FVec F S848x896 .bf16) (K : Carry F → sProp 𝕄) :
    spec c sa sb (stopped sa sb) K
      ⊢ wp frame (wpE (defs₀ (F := F)) 𝒱₀ (c : Thread nD τ) (some 900)) Set.univ
          (defs₀ (F := F) .tc 1 ⟨i, k, Memref.whole cc0_scratch2, Memref.isWhole_whole _, Scalar.ofBits .bf16 0x0000#16, Scalar.ofBits .bf16 0x3F80#16,
            Memref.whole cc0_scratch1, Memref.isWhole_whole _, k0_pay106 (k0_pay9 sb sa sb sa) sb sa, k0_pay107 (k0_pay9 sb sa sb sa) sb sa, 1#1⟩) K :=
  by
  have h := Halts.halts sa sb
  unfold stopped entry at h ⊢
  generalize k0_pay106 (k0_pay9 sb sa sb sa) sb sa = a at h ⊢
  generalize k0_pay107 (k0_pay9 sb sa sb sa) sb sa = b at h ⊢
  generalize 900 = n at h ⊢
  exact spec_le c i k sa sb Set.univ n (a, b, 1#1) h K

section LoopInv

variable (c : Dev nD) (i : grid0.Coords) (arg1 : Memref sig .tc .vmem S1x125x169 .f32) (harg1 : arg1.IsWhole)
  (arg2 : Memref sig .tc .smem S4x2 .f32) (harg2 : arg2.IsWhole) (arg3 : Memref sig .tc .vmem S1x20x896 .f32) (harg3 : arg3.IsWhole)
  (arg4 : Memref sig .tc .vmem S1x8x896 .f32) (harg4 : arg4.IsWhole)
  (v481 v483 v484 : Vec F S848x1 .f32) (v485 v486 v488 v489 : Vec F S1x896 .f32) (v490 : IVec S848x1 32) (v491 : IVec S1x896 32)
  (v494 v495 : FVec F S848x896 .f32) (v531 : IVec S24x896 32) (v532 : IVec S848x24 32)

/-- The scores' column form cut to the table's rows. -/
abbrev cut9 (g9 : cc0_scratch4.ty.Contents (Elt F)) : Vec F S848x24 .f32 :=
  (Memref.whole cc0_scratch4 : Memref sig .tc _ _ _).view.readAt (Elt F) (Rect.unit (s := S896x24) ![0, 0] S848x24.size inb_S896x24_S848x24_0_0).toLoadRect g9

/-- What the loop holds before trip `n`. -/
abbrev classInv (g5 : At (F := F) c (Memref.whole cc0_scratch0)) (g8 : At (F := F) c (Memref.whole cc0_scratch3)) (g9 : At (F := F) c (Memref.whole cc0_scratch4)) (g12 : At (F := F) c (Memref.whole cc0_scratch7)) (n : ℕ) : sProp 𝕄 :=
  iprop(own c (Memref.whole cc0_scratch0) g5 ∗ own c (Memref.whole cc0_scratch3) g8 ∗ own c (Memref.whole cc0_scratch4) g9
    ∗ (∃ f : At (F := F) c (Memref.whole cc0_scratch1), own c (Memref.whole cc0_scratch1) f) ∗ (∃ f : At (F := F) c (Memref.whole cc0_scratch2), own c (Memref.whole cc0_scratch2) f)
    ∗ (∃ f : At (F := F) c (Memref.whole cc0_scratch7), ⌜f = resAt v490 v491 v531 v532 g5 g8 (cut9 g9) g12 n⌝ ∗ own c (Memref.whole cc0_scratch7) f))

set_option maxHeartbeats 1000000 in
set_option warn.classDefReducibility false in
@[sl_loop] def loopInv [Halts F] (g5 : At (F := F) c (Memref.whole cc0_scratch0)) (g8 : At (F := F) c (Memref.whole cc0_scratch3)) (g9 : At (F := F) c (Memref.whole cc0_scratch4)) (g12 : At (F := F) c (Memref.whole cc0_scratch7)) :
    LoopInvTy_k0_t1 (F := F) Unit ℕ (UR sig nD τ) ℕ 𝒱₀ c none Set.univ i arg1 harg1 arg2 harg2 arg3 harg3 arg4 harg4
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _)
      v481 v483 v484 v485 v486 v488 v489 v490 v491 v494 v495 v531 v532 where
  inv n _ := classInv c v490 v491 v531 v532 g5 g8 g9 g12 n
  step k _ := by
    unfold Gen.k0_t1_body
    simp only [k0_part1_eq_skeleton, k0_part2_eq_skeleton]
    unfold k0_part1_skel k0_part2_skel
    simp only [Prog.lift, Prog.bind_op, Prog.bind_ret, Prog.pure_eq_ret]
    iintro ⟨H5, H8, H9, ⟨%f6, H6⟩, ⟨%f7, H7⟩, ⟨%f12, %h12, H12⟩⟩
    iapply (wp_load 𝒱₀ (c : Thread nD τ) none Set.univ (m := Memref.whole cc0_scratch3) (Finset.subset_univ _)) $$ H8; iintro H8
    iapply (wp_load 𝒱₀ (c : Thread nD τ) none Set.univ (m := Memref.whole cc0_scratch4) (Finset.subset_univ _)) $$ H9; iintro H9
    iapply (wp_load 𝒱₀ (c : Thread nD τ) none Set.univ (m := Memref.whole cc0_scratch0) (Finset.subset_univ _)) $$ H5; iintro H5
    iapply (wp_load 𝒱₀ (c : Thread nD τ) none Set.univ (m := Memref.whole cc0_scratch1) (Finset.subset_univ _)) $$ H6; iintro H6
    iapply (wp_store_writes₀ 𝒱₀ (c : Thread nD τ) none Set.univ (m := Memref.whole cc0_scratch1) (r := Rect.unit (s := S848x896) ![0, 0] S848x896.size inb_S848x896_S848x896_0_0) (Finset.subset_univ _)) $$ H6; iintro H6
    iapply (wp_load 𝒱₀ (c : Thread nD τ) none Set.univ (m := Memref.whole cc0_scratch2) (Finset.subset_univ _)) $$ H7; iintro H7
    iapply (wp_store_writes₀ 𝒱₀ (c : Thread nD τ) none Set.univ (m := Memref.whole cc0_scratch2) (r := Rect.unit (s := S848x896) ![0, 0] S848x896.size inb_S848x896_S848x896_0_0) (Finset.subset_univ _)) $$ H7; iintro H7
    rw [put_sa, put_sb, read_sc, read_ov]
    have hrow := resAt_succ v490 v491 v531 v532 g5 g8 (cut9 g9) g12 k
    rw [← h12] at hrow
    unfold classDone saOf sbOf at hrow
    generalize k0_pay7 v490 v491 v531 v532 0#32 1#32 k g8 (cut9 g9) g5 = sa at hrow ⊢
    generalize k0_pay8 v490 v491 v531 v532 0#32 1#32 k g8 (cut9 g9) g5 = sb at hrow ⊢
    iapply (wp_load 𝒱₀ (c : Thread nD τ) none Set.univ (m := Memref.whole cc0_scratch2) (Finset.subset_univ _)) $$ H7; iintro H7
    iapply (wp_load 𝒱₀ (c : Thread nD τ) none Set.univ (m := Memref.whole cc0_scratch1) (Finset.subset_univ _)) $$ H6; iintro H6
    iapply (wp_load 𝒱₀ (c : Thread nD τ) none Set.univ (m := Memref.whole cc0_scratch2) (Finset.subset_univ _)) $$ H7; iintro H7
    iapply (wp_load 𝒱₀ (c : Thread nD τ) none Set.univ (m := Memref.whole cc0_scratch1) (Finset.subset_univ _)) $$ H6; iintro H6
    iapply (wp_load 𝒱₀ (c : Thread nD τ) none Set.univ (m := Memref.whole cc0_scratch2) (Finset.subset_univ _)) $$ H7; iintro H7
    iapply (wp_load 𝒱₀ (c : Thread nD τ) none Set.univ (m := Memref.whole cc0_scratch1) (Finset.subset_univ _)) $$ H6; iintro H6
    rw [read_sa, read_sb]
    iapply (wp_call_spec 𝒱₀ (c : Thread nD τ) none Set.univ (spec c sa sb (stopped sa sb)) 900
      (fun u hu => nomatch hu) (spec_entry c i k sa sb))
    rw [spec_apply]; unfold tables
    isplitl [H6 H7]
    · isplitl [H6]; · iexact H6
      iexact H7
    iintro ⟨H6, H7⟩
    iapply (wp_load 𝒱₀ (c : Thread nD τ) none Set.univ (m := Memref.whole cc0_scratch7) (Finset.subset_univ _)) $$ H12; iintro H12
    iapply (wp_load 𝒱₀ (c : Thread nD τ) none Set.univ (m := Memref.whole cc0_scratch7) (Finset.subset_univ _)) $$ H12; iintro H12
    iapply (wp_store_writes₀ 𝒱₀ (c : Thread nD τ) none Set.univ (m := Memref.whole cc0_scratch7) (r := Rect.unit (s := S24x896) ![0, 0] S24x896.size inb_S24x896_S24x896_0_0) (Finset.subset_univ _)) $$ H12; iintro H12
    rw [put_res, read_res, wp_ret]; imodintro
    isplitl [H5]; · iexact H5
    isplitl [H8]; · iexact H8
    isplitl [H9]; · iexact H9
    isplitl [H6]; · iexists _; iexact H6
    isplitl [H7]; · iexists _; iexact H7
    iexists _
    isplitr [H12]; · ipureintro; exact hrow.symm
    iexact H12

end LoopInv

end Cert.Proof.KI

end
-- ==== Proof.KI.Decode.lean ====
/-
  What the kernel's body decodes, as values. From the block of the input and the two sizes of the image: for each anchor the
  rows of the box table (the two corners and the area), and the rows of the score table. The two tables are written row by
  row and anchor by anchor; read back, they are one function of row and lane.
-/
module

public import proofs.«01_k».proof.Proof.KI.Loop
public import Idealize.ShloMosaic.Lib.VecWindow
public import Idealize.ShloMosaic.Lib.ValueIdx

@[expose] public section

set_option maxRecDepth 16384

noncomputable section

namespace Cert.Proof.KI

open Cert.KernelIdeal Cert.KernelIdeal.Gen
open Idealize.ShloMosaic
open Idealize.ShloMosaic.TcCoe Idealize.ShloMosaic.Tactic

variable {F : FTy → Type} [FloatOps F]

/-! ### One anchor's rows -/

theorem slice_row (r : ℕ) (h : r + 1 ≤ 125) : S125x169.Slices ![r, 0] S1x169 :=
  ⟨rfl, fun a => by refine Fin.cases ?_ (fun a => Fin.cases ?_ (fun a => a.elim0) a) a; · exact h
                    · exact Nat.le_refl 169⟩
theorem slice_rows (r : ℕ) (h : r + 20 ≤ 125) : S125x169.Slices ![r, 0] S20x169 :=
  ⟨rfl, fun a => by refine Fin.cases ?_ (fun a => Fin.cases ?_ (fun a => a.elim0) a) a; · exact h
                    · exact Nat.le_refl 169⟩

/-- Channel `r` of the input's block. -/
abbrev chan (x : Vec F S1x125x169 .f32) (r : ℕ) (h : r + 1 ≤ 125) : FVec F S1x169 .f32 :=
  extractStridedSlice S1x169 ![r, 0] (k0_pay10 x) (slice_row r h)

/-- The anchors' widths and heights, as words. -/
def biasW (a : Fin 5) : BitVec 32 := ![0x3F8A3D71#32, 0x405AE148#32, 0x40D428F6#32, 0x4116B852#32, 0x4184F5C3#32] a
def biasH (a : Fin 5) : BitVec 32 := ![0x3F9851EC#32, 0x408D1EB8#32, 0x4136147B#32, 0x40A3851F#32, 0x412851EC#32] a

/-- A number on every lane. -/
abbrev all (w : BitVec 32) : FVec F S1x169 .f32 := broadcast S1x169 (Scalar.ofBits .f32 w)

/-- The cells' columns and rows on the image's grid. -/
abbrev gridCol : FVec F S1x169 .f32 := k0_pay11
abbrev gridRow : FVec F S1x169 .f32 := k0_pay15 (F := F) k0_pay12 k0_pay13 k0_pay14 0#32

/-- A box's centre along one axis, from the channel and the cell's place. -/
abbrev centre (t g : FVec F S1x169 .f32) : FVec F S1x169 .f32 := divf (addf (logistic t) g) (all 0x41500000#32)
/-- Half its extent, -/
abbrev half (bias : BitVec 32) (t : FVec F S1x169 .f32) : FVec F S1x169 .f32 :=
  divf (divf (mulf (all bias) (exp t)) (all 0x41500000#32)) (all 0x40000000#32)
/-- its lower and its upper corner. -/
abbrev lower (w : F .f32) (bias : BitVec 32) (t s g : FVec F S1x169 .f32) : FVec F S1x169 .f32 := mulf (subf (centre t g) (half bias s)) (broadcast S1x169 w)
abbrev upper (w : F .f32) (bias : BitVec 32) (t s g : FVec F S1x169 .f32) : FVec F S1x169 .f32 := mulf (addf (centre t g) (half bias s)) (broadcast S1x169 w)

section Rows

variable (w0 w1 : F .f32) (x : Vec F S1x125x169 .f32) (a : Fin 5)

theorem chan_le (k : ℕ) (hk : k ≤ 24) : k + 2 * 0 + 1 ≤ 125 := by omega

/-- The corners of anchor `a`'s boxes, -/
def rowX1 : FVec F S1x169 .f32 := lower w1 (biasW a) (chan x (2 * a.val) (by omega)) (chan x (10 + 2 * a.val) (by omega)) gridCol
def rowY1 : FVec F S1x169 .f32 := lower w0 (biasH a) (chan x (1 + 2 * a.val) (by omega)) (chan x (11 + 2 * a.val) (by omega)) gridRow
def rowX2 : FVec F S1x169 .f32 := upper w1 (biasW a) (chan x (2 * a.val) (by omega)) (chan x (10 + 2 * a.val) (by omega)) gridCol
def rowY2 : FVec F S1x169 .f32 := upper w0 (biasH a) (chan x (1 + 2 * a.val) (by omega)) (chan x (11 + 2 * a.val) (by omega)) gridRow
/-- and the boxes' areas. -/
def rowArea : FVec F S1x169 .f32 :=
  mulf (maximumf (subf (rowX2 w1 x a) (rowX1 w1 x a)) (all 0x00000000#32)) (maximumf (subf (rowY2 w0 x a) (rowY1 w0 x a)) (all 0x00000000#32))

/-- Row `r` of the box table on anchor `a`'s lanes. -/
def boxRow : Fin 5 → FVec F S1x169 .f32
  | 0 => shapeCast S1x169 (rowX1 w1 x a) shapeCasts_S1x169_S1x169
  | 1 => shapeCast S1x169 (rowY1 w0 x a) shapeCasts_S1x169_S1x169
  | 2 => shapeCast S1x169 (rowX2 w1 x a) shapeCasts_S1x169_S1x169
  | 3 => shapeCast S1x169 (rowY2 w0 x a) shapeCasts_S1x169_S1x169
  | 4 => shapeCast S1x169 (rowArea w0 w1 x a) shapeCasts_S1x169_S1x169

/-- Anchor `a`'s class channels, -/
abbrev confOf : FVec F S20x169 .f32 := extractStridedSlice S20x169 ![25 + 20 * a.val, 0] (k0_pay10 x) (slice_rows _ (by omega))
/-- their exponentials relative to the greatest, -/
abbrev relExp : FVec F S20x169 .f32 :=
  exp (subf (confOf x a) (broadcastTo S20x169 (shapeCast S1x169 (multiReduction .maximumf [0] S169 (confOf x a) 0xFF800000#32 reduces_S20x169_S169 (.inl rfl) rfl) shapeCasts_S169_S1x169)
    broadcasts_S1x169_S20x169))
/-- and the scores: the softmax by the objectness. -/
def scoreRows : FVec F S20x169 .f32 :=
  shapeCast S20x169 (mulf (divf (relExp x a) (broadcastTo S20x169 (shapeCast S1x169 (multiReduction .add [0] S169 (relExp x a) 0x00000000#32 reduces_S20x169_S169 (.inl rfl) rfl)
      shapeCasts_S169_S1x169) broadcasts_S1x169_S20x169))
    (broadcastTo S20x169 (logistic (chan x (20 + a.val) (by omega))) broadcasts_S1x169_S20x169)) shapeCasts_S20x169_S20x169

end Rows

/-! ### The tables -/

/-- The place of lane `n` in its anchor's row. -/
abbrev laneIn (n : ℕ) : Fin 169 := ⟨n % 169, Nat.mod_lt _ (by decide)⟩
/-- The anchor of lane `n`. -/
abbrev anchorOf (n : ℕ) (h : n < 845) : Fin 5 := ⟨n / 169, by omega⟩

/-- The box table of rows `R`: zero beyond its five rows and its 845 lanes. -/
def boxTable (R : Fin 5 → Fin 5 → FVec F S1x169 .f32) : Vec F S8x896 .f32 := fun j =>
  if h : (j 0).val < 5 ∧ (j 1).val < 845 then R (anchorOf (j 1).val h.2) ⟨(j 0).val, h.1⟩ (ix2 (n0 := 1) (n1 := 169) 0 (laneIn (j 1).val)) else k0_pay17 j

/-- The score table of the anchors' scores `R`: −1 beyond its twenty rows and its 845 lanes. -/
def scoreTable (R : Fin 5 → FVec F S20x169 .f32) : Vec F S24x896 .f32 := fun j =>
  if h : (j 0).val < 20 ∧ (j 1).val < 845 then R (anchorOf (j 1).val h.2) (ix2 (n0 := 20) (n1 := 169) ⟨(j 0).val, h.1⟩ (laneIn (j 1).val)) else k0_pay16 j

theorem inb_box (a r : Fin 5) : ∀ d, (![r.val, 169 * a.val] : Fin 2 → ℕ) d + S1x169.size d ≤ S8x896.size d := fun d => by
  refine Fin.cases ?_ (fun d => Fin.cases ?_ (fun d => d.elim0) d) d
  · show r.val + 1 ≤ 8; omega
  · show 169 * a.val + 169 ≤ 896; omega
theorem inb_score (a : Fin 5) : ∀ d, (![0, 169 * a.val] : Fin 2 → ℕ) d + S20x169.size d ≤ S24x896.size d := fun d => by
  refine Fin.cases ?_ (fun d => Fin.cases ?_ (fun d => d.elim0) d) d
  · show 0 + 20 ≤ 24; omega
  · show 169 * a.val + 169 ≤ 896; omega

/-- The store of row `r` on anchor `a`'s lanes, -/
abbrev boxStore (R : Fin 5 → Fin 5 → FVec F S1x169 .f32) (p : Fin 5 × Fin 5) : View.Piece (Elt F) S8x896 .f32 :=
  ⟨Rect.unit (s := S8x896) ![p.2.val, 169 * p.1.val] S1x169.size (inb_box p.1 p.2), R p.1 p.2⟩
/-- of the scores on anchor `a`'s lanes, -/
abbrev scoreStore (R : Fin 5 → FVec F S20x169 .f32) (a : Fin 5) : View.Piece (Elt F) S24x896 .f32 :=
  ⟨Rect.unit (s := S24x896) ![0, 169 * a.val] S20x169.size (inb_score a), R a⟩
/-- and all of them, the last first. -/
abbrev boxOrder : List (Fin 5 × Fin 5) :=
  [(4, 4), (4, 3), (4, 2), (4, 1), (4, 0), (3, 4), (3, 3), (3, 2), (3, 1), (3, 0), (2, 4), (2, 3), (2, 2), (2, 1), (2, 0),
    (1, 4), (1, 3), (1, 2), (1, 1), (1, 0), (0, 4), (0, 3), (0, 2), (0, 1), (0, 0)]
abbrev boxStores (R : Fin 5 → Fin 5 → FVec F S1x169 .f32) (ps : List (Fin 5 × Fin 5)) : List (View.Piece (Elt F) S8x896 .f32) :=
  ps.map (boxStore R) ++ [⟨Rect.unit (s := S8x896) ![0, 0] S8x896.size inb_S8x896_S8x896_0_0, k0_pay17⟩]
abbrev scoreStores (R : Fin 5 → FVec F S20x169 .f32) (ps : List (Fin 5)) : List (View.Piece (Elt F) S24x896 .f32) :=
  ps.map (scoreStore R) ++ [⟨Rect.unit (s := S24x896) ![0, 0] S24x896.size inb_S24x896_S24x896_0_0, k0_pay16⟩]

variable {sp : Space}

theorem read_boxStores (v : View sig .tc sp S8x896 .f32) (f : v.ty.Contents (Elt F)) (R : Fin 5 → Fin 5 → FVec F S1x169 .f32) (j : S8x896.Idx)
    (ps : List (Fin 5 × Fin 5)) (hps : ∀ h : (j 0).val < 5 ∧ (j 1).val < 845, (anchorOf (j 1).val h.2, (⟨(j 0).val, h.1⟩ : Fin 5)) ∈ ps) :
    v.read (Elt F) (v.writes (Elt F) f (boxStores R ps)) j = boxTable R j := by
  have hmiss : ∀ qs : List (Fin 5 × Fin 5), (∀ h : (j 0).val < 5 ∧ (j 1).val < 845, (anchorOf (j 1).val h.2, (⟨(j 0).val, h.1⟩ : Fin 5)) ∈ qs) ∨ ¬((j 0).val < 5 ∧ (j 1).val < 845) →
      v.read (Elt F) (v.writes (Elt F) f (boxStores R qs)) j = boxTable R j := by
    intro qs
    induction qs with
    | nil =>
      intro h
      have h' : ¬((j 0).val < 5 ∧ (j 1).val < 845) := fun e => h.elim (fun h => List.not_mem_nil (h e)) (fun h => h e)
      unfold boxTable
      rw [dif_neg h']
      exact congrFun (View.read_writes_full v f inb_S8x896_S8x896_0_0 _ []) j
    | cons p qs ih =>
      intro h
      by_cases hp : ∃ e : (j 0).val < 5 ∧ (j 1).val < 845, (anchorOf (j 1).val e.2, (⟨(j 0).val, e.1⟩ : Fin 5)) = p
      · obtain ⟨e, rfl⟩ := hp
        unfold boxTable
        rw [dif_pos e]
        refine View.read_writes_cons_unit_of_mem v f _ _ _ j (ix2 (n0 := 1) (n1 := 169) 0 (laneIn (j 1).val)) rfl fun d => ?_
        refine Fin.cases ?_ (fun d => Fin.cases ?_ (fun d => d.elim0) d) d
        · show (j 0).val = (j 0).val + 0; omega
        · show (j 1).val = 169 * ((j 1).val / 169) + (j 1).val % 169; omega
      · have hr := ih (h.imp_left fun h e => (List.mem_cons.1 (h e)).elim (fun q => absurd ⟨e, q⟩ hp) id)
        rw [← hr]
        by_cases h0 : (j 0).val = p.2.val
        · refine View.read_writes_cons_unit_of_not_mem v f _ _ _ j rfl 1 ?_
          show (j 1).val < 169 * p.1.val ∨ 169 * p.1.val + 169 ≤ (j 1).val
          by_contra hc
          refine hp ⟨⟨by omega, by omega⟩, Prod.ext (Fin.ext ?_) (Fin.ext h0)⟩
          show (j 1).val / 169 = p.1.val
          omega
        · refine View.read_writes_cons_unit_of_not_mem v f _ _ _ j rfl 0 ?_
          show (j 0).val < p.2.val ∨ p.2.val + 1 ≤ (j 0).val
          omega
  exact hmiss ps (.inl hps)

theorem read_scoreStores (v : View sig .tc sp S24x896 .f32) (f : v.ty.Contents (Elt F)) (R : Fin 5 → FVec F S20x169 .f32) (j : S24x896.Idx)
    (ps : List (Fin 5)) (hps : ∀ h : (j 0).val < 20 ∧ (j 1).val < 845, anchorOf (j 1).val h.2 ∈ ps) :
    v.read (Elt F) (v.writes (Elt F) f (scoreStores R ps)) j = scoreTable R j := by
  have hmiss : ∀ qs : List (Fin 5), (∀ h : (j 0).val < 20 ∧ (j 1).val < 845, anchorOf (j 1).val h.2 ∈ qs) ∨ ¬((j 0).val < 20 ∧ (j 1).val < 845) →
      v.read (Elt F) (v.writes (Elt F) f (scoreStores R qs)) j = scoreTable R j := by
    intro qs
    induction qs with
    | nil =>
      intro h
      have h' : ¬((j 0).val < 20 ∧ (j 1).val < 845) := fun e => h.elim (fun h => List.not_mem_nil (h e)) (fun h => h e)
      unfold scoreTable
      rw [dif_neg h']
      exact congrFun (View.read_writes_full v f inb_S24x896_S24x896_0_0 _ []) j
    | cons p qs ih =>
      intro h
      by_cases hp : ∃ e : (j 0).val < 20 ∧ (j 1).val < 845, anchorOf (j 1).val e.2 = p
      · obtain ⟨e, rfl⟩ := hp
        unfold scoreTable
        rw [dif_pos e]
        refine View.read_writes_cons_unit_of_mem v f _ _ _ j (ix2 ⟨(j 0).val, e.1⟩ (laneIn (j 1).val)) rfl fun d => ?_
        refine Fin.cases ?_ (fun d => Fin.cases ?_ (fun d => d.elim0) d) d
        · show (j 0).val = 0 + (j 0).val; omega
        · show (j 1).val = 169 * ((j 1).val / 169) + (j 1).val % 169; omega
      · have hr := ih (h.imp_left fun h e => (List.mem_cons.1 (h e)).elim (fun q => absurd ⟨e, q⟩ hp) id)
        rw [← hr]
        by_cases h0 : (j 0).val < 20
        · refine View.read_writes_cons_unit_of_not_mem v f _ _ _ j rfl 1 ?_
          show (j 1).val < 169 * p.val ∨ 169 * p.val + 169 ≤ (j 1).val
          by_contra hc
          refine hp ⟨⟨by omega, by omega⟩, Fin.ext ?_⟩
          show (j 1).val / 169 = p.val
          omega
        · refine View.read_writes_cons_unit_of_not_mem v f _ _ _ j rfl 0 ?_
          show (j 0).val < 0 ∨ 0 + 20 ≤ (j 0).val
          omega
  exact hmiss ps (.inl hps)

/-! ### The overlap table -/

/-- Row `r` of the box table, -/
abbrev lineR (cd : Vec F S8x896 .f32) (r : ℕ) (h : ∀ a, (![r, 0] : Fin 2 → ℕ) a + S1x896.size a ≤ S8x896.size a) : Vec F S1x896 .f32 :=
  View.ld (Val := Elt F) cd (Rect.unit (s := S8x896) ![r, 0] S1x896.size h)
/-- column `r` of its transpose. -/
abbrev lineC (cdT : Vec F S896x8 .f32) (r : ℕ) (h : ∀ a, (![0, r] : Fin 2 → ℕ) a + S848x1.size a ≤ S896x8.size a) : Vec F S848x1 .f32 :=
  View.ld (Val := Elt F) cdT (Rect.unit (s := S896x8) ![0, r] S848x1.size h)

/-- The rows' and the lanes' numbers, -/
abbrev idRow : IVec S848x1 32 := iota .tc S848x1 32 [0] iota_S848x1_d0_w32
abbrev idLane : IVec S1x896 32 := iota .tc S1x896 32 [1] iota_S1x896_d1_w32
/-- and the classes' in the score table and in its column form. -/
abbrev idClassR : IVec S24x896 32 := iota .tc S24x896 32 [0] iota_S24x896_d0_w32
abbrev idClassC : IVec S848x24 32 := iota .tc S848x24 32 [1] iota_S848x24_d1_w32

/-- The overlap table of the box table `cd` and its transpose `cdT`. -/
def overlapOf (cd : Vec F S8x896 .f32) (cdT : Vec F S896x8 .f32) : Vec F S848x896 .bf16 :=
  k0_pay105 (lineC cdT 1 inb_S896x8_S848x1_0_1) (lineC cdT 3 inb_S896x8_S848x1_0_3) (lineC cdT 4 inb_S896x8_S848x1_0_4)
    (lineR cd 0 inb_S8x896_S1x896_0_0) (lineR cd 1 inb_S8x896_S1x896_1_0) (lineR cd 3 inb_S8x896_S1x896_3_0) (lineR cd 4 inb_S8x896_S1x896_4_0)
    idRow idLane (k0_pay103 (lineC cdT 2 inb_S896x8_S848x1_0_2) (lineR cd 2 inb_S8x896_S1x896_2_0)) (k0_pay104 (lineC cdT 0 inb_S896x8_S848x1_0_0))

/-! ### What the body makes of a block -/

section Blocks

variable (w0 w1 : F .f32) (x : Vec F S1x125x169 .f32)

/-- The box table, -/
def boxes : Vec F S8x896 .f32 := boxTable (boxRow w0 w1 x)
/-- the score table, -/
def scores : Vec F S24x896 .f32 := k0_pay100 (k0_pay99 (scoreTable (scoreRows x)))
/-- its column form cut to the table's rows, -/
def scoreCols : Vec F S848x24 .f32 := cut9 (k0_pay101 (scores x))

/-- the overlap table, -/
def overlap : Vec F S848x896 .bf16 := overlapOf (boxes w0 w1 x) (k0_pay102 (boxes w0 w1 x))

/-- class `k`'s scores after the suppression, -/
def classRow (k : Fin k0_t1_loop.trips) : Vec F S24x896 .f32 :=
  classDone idRow idLane idClassR idClassC (overlap w0 w1 x) (scores x) (scoreCols x) k blank

/-- and the two results' blocks. -/
def probBlk : Vec F S1x20x896 .f32 :=
  k0_pay1 fun j => classRow w0 w1 x ⟨(j 0).val, by rw [trips_eq]; exact (j 0).isLt⟩ (ix2 (n0 := 24) (n1 := 896) ⟨(j 0).val, lt_trans (j 0).isLt (by decide)⟩ (j 1))
def boxBlk : Vec F S1x8x896 .f32 := k0_pay2 (boxes w0 w1 x)

end Blocks

end Cert.Proof.KI

end
-- ==== Proof.KI.Body.lean ====
/-
  The kernel's body at one grid point: from the block of the input, the table of the image sizes and any contents of the
  scratch, the two results' blocks. The class loop is met by its invariant.
-/
module

public import proofs.«01_k».proof.Proof.KI.Decode

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The overlap table's buffer overwritten whole. -/
theorem put_ov (f w : cc0_scratch0.ty.Contents (Elt F)) :
    (Memref.whole cc0_scratch0 : Memref sig .tc _ _ _).view.writes (Elt F) f [⟨(Rect.unit (s := S848x896) ![0, 0] S848x896.size inb_S848x896_S848x896_0_0), w⟩] = w :=
  Memref.write_access_unit_zero_univ (Elt F) cc0_scratch0 (off := ![0, 0]) (by decide) inb_S848x896_S848x896_0_0 f w

/-- The result's block from a block whose rows are done. -/
theorem prob_of_rows (w0 w1 : F .f32) (x : Vec F S1x125x169 .f32) (f : Vec F S24x896 .f32)
    (h : RowsDone idRow idLane idClassR idClassC (overlap w0 w1 x) (scores x) (scoreCols x) k0_t1_loop.trips f) :
    k0_pay1 ((Memref.whole cc0_scratch7 : Memref sig .tc _ _ _).view.readAt (Elt F) (Rect.unit (s := S24x896) ![0, 0] S20x896.size inb_S24x896_S20x896_0_0).toLoadRect f) = probBlk w0 w1 x := by
  unfold probBlk
  refine congrArg k0_pay1 (funext fun j => ?_)
  have hk : (j 0).val < k0_t1_loop.trips := by rw [trips_eq]; exact (j 0).isLt
  have h24 : (j 0).val < 24 := lt_trans (j 0).isLt (by decide)
  have hr := h ⟨(j 0).val, hk⟩ hk (ix2 (n0 := 24) (n1 := 896) ⟨(j 0).val, h24⟩ (j 1)) rfl
  unfold classRow
  refine Eq.trans ?_ hr
  show f _ = f _
  refine congrArg f (funext fun d => Fin.ext ?_)
  refine Fin.cases ?_ (fun d => Fin.cases ?_ (fun d => d.elim0) d) d
  · show 0 + 1 * (j 0).val = (j 0).val; omega
  · show 0 + 1 * (j 1).val = (j 1).val; omega

/-- A whole buffer read as itself. -/
theorem read_all3 (f : cc0_scratch3.ty.Contents (Elt F)) : (Memref.whole cc0_scratch3 : Memref sig .tc _ _ _).view.read (Elt F) f = f := rfl
theorem read_all4 (f : cc0_scratch4.ty.Contents (Elt F)) : (Memref.whole cc0_scratch4 : Memref sig .tc _ _ _).view.read (Elt F) f = f := rfl

theorem box_order : ∀ a r : Fin 5, (a, r) ∈ boxOrder := by decide
theorem score_order : ∀ a : Fin 5, a ∈ [(4 : Fin 5), 3, 2, 1, 0] := by decide

/-- The two sizes of the grid point's image, -/
abbrev size0 (c : Dev nD) (i : grid0.Coords) (M2 : Memref sig .tc .smem S4x2 .f32) (f2 : At (F := F) c M2) : F .f32 :=
  View.read (Elt F) (M2.access (Rect.unit (s := S4x2) (k0_off1 i) S1x1.size (k0_off1_inb i))) f2 (Shape.Idx.first (numel1_S1x1.symm ▸ Nat.one_pos))
abbrev size1 (c : Dev nD) (i : grid0.Coords) (M2 : Memref sig .tc .smem S4x2 .f32) (f2 : At (F := F) c M2) : F .f32 :=
  View.read (Elt F) (M2.access (Rect.unit (s := S4x2) (k0_off2 i) S1x1.size (k0_off2_inb i))) f2 (Shape.Idx.first (numel1_S1x1.symm ▸ Nat.one_pos))
/-- and its block of the input. -/
abbrev blockOf (c : Dev nD) (M1 : Memref sig .tc .vmem S1x125x169 .f32) (f1 : At (F := F) c M1) : Vec F S1x125x169 .f32 :=
  View.readAt (Elt F) M1.view (Rect.unit (s := S1x125x169) ![0, 0, 0] S1x125x169.size inb_S1x125x169_S1x125x169_0_0_0).toLoadRect f1

set_option maxHeartbeats 1000000 in
/-- One grid point's run. -/
theorem bodyRun [Halts F] (c : Dev nD) (i : grid0.Coords) (M1 : Memref sig .tc .vmem S1x125x169 .f32) (h1 : M1.IsWhole)
    (M2 : Memref sig .tc .smem S4x2 .f32) (h2 : M2.IsWhole) (M3 : Memref sig .tc .vmem S1x20x896 .f32) (h3 : M3.IsWhole)
    (M4 : Memref sig .tc .vmem S1x8x896 .f32) (h4 : M4.IsWhole) (f1 : At (F := F) c M1) (f2 : At (F := F) c M2) :
      ∀ (f3 : At (F := F) c M3) (f4 : At (F := F) c M4) (s0 : At (F := F) c (Memref.whole cc0_scratch0)) (s1 : At (F := F) c (Memref.whole cc0_scratch1))
        (s2 : At (F := F) c (Memref.whole cc0_scratch2)) (s3 : At (F := F) c (Memref.whole cc0_scratch3)) (s4 : At (F := F) c (Memref.whole cc0_scratch4))
        (s5 : At (F := F) c (Memref.whole cc0_scratch5)) (s6 : At (F := F) c (Memref.whole cc0_scratch6)) (s7 : At (F := F) c (Memref.whole cc0_scratch7)) (K : PUnit → sProp 𝕄),
        iprop(own c M1 f1 ∗ own c M2 f2 ∗ own c M3 f3 ∗ own c M4 f4 ∗ own c (Memref.whole cc0_scratch0) s0 ∗ own c (Memref.whole cc0_scratch1) s1
          ∗ own c (Memref.whole cc0_scratch2) s2 ∗ own c (Memref.whole cc0_scratch3) s3 ∗ own c (Memref.whole cc0_scratch4) s4
          ∗ own c (Memref.whole cc0_scratch5) s5 ∗ own c (Memref.whole cc0_scratch6) s6 ∗ own c (Memref.whole cc0_scratch7) s7
          ∗ (own c M1 f1 ∗ own c M2 f2
              ∗ (∃ g, ⌜M3.view.read (Elt F) g = probBlk (size0 c i M2 f2) (size1 c i M2 f2) (blockOf c M1 f1)⌝ ∗ own c M3 g)
              ∗ (∃ g, ⌜M4.view.read (Elt F) g = boxBlk (size0 c i M2 f2) (size1 c i M2 f2) (blockOf c M1 f1)⌝ ∗ own c M4 g)
              ∗ (∃ g, own c (Memref.whole cc0_scratch0) g) ∗ (∃ g, own c (Memref.whole cc0_scratch1) g) ∗ (∃ g, own c (Memref.whole cc0_scratch2) g)
              ∗ (∃ g, own c (Memref.whole cc0_scratch3) g) ∗ (∃ g, own c (Memref.whole cc0_scratch4) g) ∗ (∃ g, own c (Memref.whole cc0_scratch5) g)
              ∗ (∃ g, own c (Memref.whole cc0_scratch6) g) ∗ (∃ g, own c (Memref.whole cc0_scratch7) g) -∗ K ⟨⟩))
        ⊢ wp frame (wpE (defs₀ (F := F)) 𝒱₀ (c : Thread nD τ) none) Set.univ
            (cc0__yolo_nms_kernel i M1 h1 M2 h2 M3 h3 M4 h4 (Memref.whole cc0_scratch0) (Memref.isWhole_whole _) (Memref.whole cc0_scratch1) (Memref.isWhole_whole _)
              (Memref.whole cc0_scratch2) (Memref.isWhole_whole _) (Memref.whole cc0_scratch3) (Memref.isWhole_whole _) (Memref.whole cc0_scratch4) (Memref.isWhole_whole _)
              (Memref.whole cc0_scratch5) (Memref.isWhole_whole _) (Memref.whole cc0_scratch6) (Memref.isWhole_whole _) (Memref.whole cc0_scratch7) (Memref.isWhole_whole _)) K := by
  intro f3 f4 s0 s1 s2 s3 s4 s5 s6 s7 K
  unfold size0 size1 blockOf
  iintro ⟨H1, H2, H3, H4, H5, H6, H7, H8, H9, H10, H11, H12, Hk⟩
  simp only [cc0__yolo_nms_kernel_eq_skeleton]
  unfold cc0__yolo_nms_kernel_skel
  simp only [k0_part3_eq_skeleton]
  unfold k0_part3_skel
  simp only [smemLoad, smemLoadElt, Prog.lift, Prog.bind_op, Prog.bind_ret, Prog.pure_eq_ret]
  iapply (wp_load_rect 𝒱₀ (c : Thread nD τ) none Set.univ (m := M2) (r := Rect.unit (s := S4x2) (k0_off1 i) S1x1.size (k0_off1_inb i)) (Finset.subset_univ _)) $$ H2; iintro H2
  iapply (wp_load_rect 𝒱₀ (c : Thread nD τ) none Set.univ (m := M2) (r := Rect.unit (s := S4x2) (k0_off2 i) S1x1.size (k0_off2_inb i)) (Finset.subset_univ _)) $$ H2; iintro H2
  iapply (wp_load 𝒱₀ (c : Thread nD τ) none Set.univ (m := M1) (Finset.subset_univ _)) $$ H1; iintro H1
  generalize View.read (Elt F) (M2.access (Rect.unit (s := S4x2) (k0_off1 i) S1x1.size (k0_off1_inb i))) f2 (Shape.Idx.first (numel1_S1x1.symm ▸ Nat.one_pos)) = w0
  generalize View.read (Elt F) (M2.access (Rect.unit (s := S4x2) (k0_off2 i) S1x1.size (k0_off2_inb i))) f2 (Shape.Idx.first (numel1_S1x1.symm ▸ Nat.one_pos)) = w1
  generalize View.readAt (Elt F) M1.view (Rect.unit (s := S1x125x169) ![0, 0, 0] S1x125x169.size inb_S1x125x169_S1x125x169_0_0_0).toLoadRect f1 = x
  sl_exec_parts!
  have hcd : (Memref.whole cc0_scratch5 : Memref sig .tc _ _ _).view.read (Elt F) ((Memref.whole cc0_scratch5 : Memref sig .tc _ _ _).view.writes (Elt F) (Memref.whole cc0_scratch5 : Memref sig .tc _ _ _).view.junk (bodyRun.sl.H10_26 w0 w1 x)) = boxes w0 w1 x :=
    funext fun j => read_boxStores _ _ (boxRow w0 w1 x) j boxOrder (fun h => box_order _ _)
  have hsc : (Memref.whole cc0_scratch3 : Memref sig .tc _ _ _).view.read (Elt F) ((Memref.whole cc0_scratch3 : Memref sig .tc _ _ _).view.writes (Elt F) (Memref.whole cc0_scratch3 : Memref sig .tc _ _ _).view.junk (bodyRun.sl.H8_6 x)) = scoreTable (scoreRows x) :=
    funext fun j => read_scoreStores _ _ (scoreRows x) j [4, 3, 2, 1, 0] (fun h => score_order _)
  have hct : (Memref.whole cc0_scratch6 : Memref sig .tc _ _ _).view.read (Elt F) ((Memref.whole cc0_scratch6 : Memref sig .tc _ _ _).view.writes (Elt F) (Memref.whole cc0_scratch6 : Memref sig .tc _ _ _).view.junk (bodyRun.sl.H11_1 w0 w1 x)) = k0_pay102 (boxes w0 w1 x) :=
    (View.read_writes_full _ _ _ _ _).trans (congrArg k0_pay102 ((View.readAt_full _ _ _).trans hcd))
  have hs8 : (Memref.whole cc0_scratch3 : Memref sig .tc _ _ _).view.read (Elt F) ((Memref.whole cc0_scratch3 : Memref sig .tc _ _ _).view.writes (Elt F) (Memref.whole cc0_scratch3 : Memref sig .tc _ _ _).view.junk (bodyRun.sl.H8_7 x)) = scores x :=
    (View.read_writes_full _ _ _ _ _).trans (congrArg (fun t => k0_pay100 (k0_pay99 t)) ((View.readAt_full _ _ _).trans hsc))
  sl_step
  iapply Hk
  isplitl [H1]; · iexact H1
  isplitl [H2]; · iexact H2
  isplitl [H3]
  · iexists _; isplitr [H3]
    rotate_left
    · iexact H3
    · ipureintro
      have hres := rowsDone_resAt idRow idLane idClassR idClassC (overlap w0 w1 x) (scores x) (scoreCols x) s7 k0_t1_loop.trips (Nat.le_refl _)
      have h5 : (Memref.whole cc0_scratch0 : Memref sig .tc _ _ _).view.writes (Elt F) (Memref.whole cc0_scratch0 : Memref sig .tc _ _ _).view.junk (bodyRun.sl.H5_1 w0 w1 x) = overlap w0 w1 x :=
        (put_ov _ _).trans (by
          show overlapOf ((Memref.whole cc0_scratch5 : Memref sig .tc _ _ _).view.read (Elt F) ((Memref.whole cc0_scratch5 : Memref sig .tc _ _ _).view.writes (Elt F) (Memref.whole cc0_scratch5 : Memref sig .tc _ _ _).view.junk (bodyRun.sl.H10_26 w0 w1 x))) ((Memref.whole cc0_scratch6 : Memref sig .tc _ _ _).view.read (Elt F) ((Memref.whole cc0_scratch6 : Memref sig .tc _ _ _).view.writes (Elt F) (Memref.whole cc0_scratch6 : Memref sig .tc _ _ _).view.junk (bodyRun.sl.H11_1 w0 w1 x))) = _
          rw [hcd, hct]; rfl)
      have h8 : (Memref.whole cc0_scratch3 : Memref sig .tc _ _ _).view.writes (Elt F) (Memref.whole cc0_scratch3 : Memref sig .tc _ _ _).view.junk (bodyRun.sl.H8_7 x) = scores x := (read_all3 _).symm.trans hs8
      have h9 : cut9 ((Memref.whole cc0_scratch4 : Memref sig .tc _ _ _).view.writes (Elt F) (Memref.whole cc0_scratch4 : Memref sig .tc _ _ _).view.junk (bodyRun.sl.H9_1 x)) = scoreCols x :=
        congrArg cut9 ((read_all4 _).symm.trans ((View.read_writes_full _ _ _ _ _).trans (congrArg k0_pay101 ((View.readAt_full _ _ _).trans hs8)) :
          (Memref.whole cc0_scratch4 : Memref sig .tc _ _ _).view.read (Elt F) ((Memref.whole cc0_scratch4 : Memref sig .tc _ _ _).view.writes (Elt F) (Memref.whole cc0_scratch4 : Memref sig .tc _ _ _).view.junk (bodyRun.sl.H9_1 x)) = k0_pay101 (scores x)))
      refine (View.read_writes_full _ _ _ _ _).trans ?_
      unfold bodyRun.sl.v534
      rw [h5, h8, h9]
      exact prob_of_rows w0 w1 x _ hres
  isplitl [H4]
  · iexists _; isplitr [H4]
    rotate_left
    · iexact H4
    · ipureintro
      refine (View.read_writes_full _ _ _ _ _).trans ?_
      unfold bodyRun.sl.v538
      exact congrArg k0_pay2 (((View.readAt_full _ _ _)).trans hcd)
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.Proof.KI

end
-- ==== Proof.KI.Run.lean ====
/-
  The kernel's launch: the host line before the grid, the grid's four points by `bodyRun`, the host lines after it. Its run
  ends with the arguments as they were and with each result's window array at the blocks the points wrote.
-/
module

public import proofs.«01_k».proof.Proof.KI.Body
public import proofs.«01_k».proof.Proof.Gen.KernelIdeal.Launch
public import proofs.«01_k».proof.Proof.Gen.KernelIdeal.Points
public import Idealize.ShloMosaic.Lib.Pipeline.FrameSuffix
public import Idealize.ShloMosaic.Lib.Pipeline.FrameBody

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- A whole memref held at the contents it reads is its buffer held. -/
theorem owns_own {sp : Space} {s : Shape} {e : EltTy} (c : Dev nD) (M : Memref sig .tc sp s e) (h : M.IsWhole) (X : s.Idx → Elt F e) :
    (owns (c : Thread nD τ) M fullShare X : sProp 𝕄) = iprop(∃ f : At (F := F) c M, ⌜M.view.read (Elt F) f = X⌝ ∗ own c M f) := by
  unfold owns own; rw [h.set_eq_univ]

/-- The buffers when the grid is entered. -/
abbrev V₀ (c : Dev nD) : Valuation τ sig (Elt F) := StableHlo.after hostOps0 (fun b => m (c, b))

/-- A window's block at a point, read off its array as the grid finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V₀ m c (Proc.devRef .tc (Pipeline.arrRef spec0 w)))

/-- The sizes of a point's image from the table of the sizes. -/
def high (i : grid0.Coords) (X : Vec F S4x2 .f32) : F .f32 := X (ix2 (n0 := 4) (n1 := 2) (i 0) 0)
def wide (i : grid0.Coords) (X : Vec F S4x2 .f32) : F .f32 := X (ix2 (n0 := 4) (n1 := 2) (i 0) 1)

theorem at_off1 (i : grid0.Coords) : (Rect.unit (s := S4x2) (k0_off1 i) S1x1.size (k0_off1_inb i)).toLoadRect.idx (Shape.Idx.first (numel1_S1x1.symm ▸ Nat.one_pos)) = ix2 (n0 := 4) (n1 := 2) (i 0) 0 := by
  revert i; decide +kernel
theorem at_off2 (i : grid0.Coords) : (Rect.unit (s := S4x2) (k0_off2 i) S1x1.size (k0_off2_inb i)).toLoadRect.idx (Shape.Idx.first (numel1_S1x1.symm ▸ Nat.one_pos)) = ix2 (n0 := 4) (n1 := 2) (i 0) 1 := by
  revert i; decide +kernel

theorem size0_eq (c : Dev nD) (i : grid0.Coords) (M2 : Memref sig .tc .smem S4x2 .f32) (f2 : At (F := F) c M2) :
    size0 c i M2 f2 = high i (M2.view.read (Elt F) f2) := by
  unfold high; rw [← at_off1 i]; rfl
theorem size1_eq (c : Dev nD) (i : grid0.Coords) (M2 : Memref sig .tc .smem S4x2 .f32) (f2 : At (F := F) c M2) :
    size1 c i M2 f2 = wide i (M2.view.read (Elt F) f2) := by
  unfold wide; rw [← at_off2 i]; rfl
theorem blockOf_eq (c : Dev nD) (M1 : Memref sig .tc .vmem S1x125x169 .f32) (f1 : At (F := F) c M1) :
    blockOf c M1 f1 = M1.view.read (Elt F) f1 := View.readAt_full _ _ _

/-- The two results' blocks at a point. -/
def outProb (c : Dev nD) (t : Fin (cfg0 (F := F)).N) : Vec F S1x20x896 .f32 :=
  probBlk (high (grid0.coords t) (iblk m c 1 t)) (wide (grid0.coords t) (iblk m c 1 t)) (iblk m c 0 t)
def outBox (c : Dev nD) (t : Fin (cfg0 (F := F)).N) : Vec F S1x8x896 .f32 :=
  boxBlk (high (grid0.coords t) (iblk m c 1 t)) (wide (grid0.coords t) (iblk m c 1 t)) (iblk m c 0 t)

/-- The grid's proof data: the arrays as the grid finds them; the inputs' blocks left in place, the results' written. -/
def dats (_ : Fin 1) (c : Dev nD) : Dat τ (Elt F) Unit ℕ (UR sig nD τ) ℕ (cfg0 (F := F)) c where
  A w := V₀ m c (Proc.devRef .tc (Pipeline.arrRef spec0 w))
  after w t := match w with
    | ⟨0, _⟩ => iblk m c 0 t
    | ⟨1, _⟩ => iblk m c 1 t
    | ⟨2, _⟩ => outProb m c t
    | ⟨3, _⟩ => outBox m c t
  Φ _ := Pipeline.ΦA spec0 c
  q _ := fullShare
  owed _ := 0

theorem A_eq (c : Dev nD) (w : Fin (cfg0 (F := F)).W) : (dats m 0 c).A w = V₀ m c (Proc.devRef .tc (Pipeline.arrRef spec0 w)) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = outProb m c t := by dsimp only [dats]; rfl
theorem after_3 (c : Dev nD) (t : Fin (cfg0 (F := F)).N) : (dats m 0 c).after 3 t = outBox m c t := by dsimp only [dats]; rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- One point: from the invariant, the inputs' blocks in their buffers and the results' buffers, to the results' blocks. -/
theorem point [Halts F] (c : Dev nD) (i : grid0.Coords) (M1 : Memref sig .tc .vmem S1x125x169 .f32) (w1 : M1.IsWhole)
    (M2 : Memref sig .tc .smem S4x2 .f32) (w2 : M2.IsWhole) (M3 : Memref sig .tc .vmem S1x20x896 .f32) (w3 : M3.IsWhole)
    (M4 : Memref sig .tc .vmem S1x8x896 .f32) (w4 : M4.IsWhole) (X : Vec F S1x125x169 .f32) (Z : Vec F S4x2 .f32)
    (d2 : Vec F S1x20x896 .f32) (d3 : Vec F S1x8x896 .f32) (K : PUnit → sProp 𝕄) :
    iprop(Pipeline.ΦA spec0 c ∗ owns (c : Thread nD τ) M1 fullShare X ∗ owns (c : Thread nD τ) M2 fullShare Z
        ∗ owns (c : Thread nD τ) M3 fullShare d2 ∗ owns (c : Thread nD τ) M4 fullShare d3
        ∗ (Pipeline.ΦA spec0 c ∗ owns (c : Thread nD τ) M1 fullShare X ∗ owns (c : Thread nD τ) M2 fullShare Z
            ∗ owns (c : Thread nD τ) M3 fullShare (probBlk (high i Z) (wide i Z) X) ∗ owns (c : Thread nD τ) M4 fullShare (boxBlk (high i Z) (wide i Z) X) -∗ K ⟨⟩))
      ⊢ wp frame (wpE (defs₀ (F := F)) 𝒱₀ (c : Thread nD τ) none) Set.univ
            (cc0__yolo_nms_kernel i M1 w1 M2 w2 M3 w3 M4 w4 (Memref.whole cc0_scratch0) (Memref.isWhole_whole _) (Memref.whole cc0_scratch1) (Memref.isWhole_whole _)
              (Memref.whole cc0_scratch2) (Memref.isWhole_whole _) (Memref.whole cc0_scratch3) (Memref.isWhole_whole _) (Memref.whole cc0_scratch4) (Memref.isWhole_whole _)
              (Memref.whole cc0_scratch5) (Memref.isWhole_whole _) (Memref.whole cc0_scratch6) (Memref.isWhole_whole _) (Memref.whole cc0_scratch7) (Memref.isWhole_whole _)) K := by
  rw [owns_own c M1 w1, owns_own c M2 w2, owns_own c M3 w3, owns_own c M4 w4, owns_own c M3 w3, owns_own c M4 w4]
  unfold Pipeline.ΦA
  rw [scopedRest0_eq]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hp⟩, ⟨%f1, %h1, H1⟩, ⟨%f2, %h2, H2⟩, ⟨%f3, -, H3⟩, ⟨%f4, -, H4⟩, Hk⟩
  iapply (bodyRun c i M1 w1 M2 w2 M3 w3 M4 w4 f1 f2 f3 f4 s0 s1 s2 s3 s4 s5 s6 s7 K)
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  rw [size0_eq, size1_eq, blockOf_eq, h1, h2]
  iintro ⟨H1, H2, ⟨%g3, %hg3, H3⟩, ⟨%g4, %hg4, H4⟩, HS0, HS1, HS2, HS3, HS4, HS5, HS6, HS7⟩
  iapply Hk
  isplitl [HS0 HS1 HS2 HS3 HS4 HS5 HS6 HS7 Hp]
  · isplitr [Hp]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    · iexact Hp
  isplitl [H1]
  · iexists f1; isplitr; · ipureintro; exact h1
    iexact H1
  isplitl [H2]
  · iexists f2; isplitr; · ipureintro; exact h2
    iexact H2
  isplitl [H3]
  · iexists g3; isplitr; · ipureintro; exact hg3
    iexact H3
  · iexists g4; isplitr; · ipureintro; exact hg4
    iexact H4

/-- The library's body obligation. -/
theorem body_obligation [Halts F] (c : Dev nD) : BodyObligation (dats m 0 c) (defs₀ (F := F)) 𝒱₀ () Set.univ := fun t => by
  rw [bigSep_W0, bigSep_W0, defs₀_row]
  rewrite [show (dats m 0 c).Φ t.castSucc = Pipeline.ΦA spec0 c from rfl, show (dats m 0 c).Φ t.succ = Pipeline.ΦA spec0 c from rfl]
  show _ ⊢ wp frame (wpE (defs₀ (F := F)) 𝒱₀ (c : Thread nD τ) none) Set.univ (bodyAt0 t) fun _ =>
    iprop(Pipeline.ΦA spec0 c ∗ (dats m 0 c).owesAt () t.succ ∗ owns (c : Thread nD τ) (st0_0 (F := F) t) fullShare ((dats m 0 c).after 0 t)
      ∗ owns (c : Thread nD τ) (st0_1 (F := F) t) fullShare ((dats m 0 c).after 1 t) ∗ owns (c : Thread nD τ) (st0_2 (F := F) t) fullShare ((dats m 0 c).after 2 t)
      ∗ owns (c : Thread nD τ) (st0_3 (F := F) t) fullShare ((dats m 0 c).after 3 t))
  rw [after_0, after_1, after_2, after_3]
  unfold outProb outBox
  unfold Dat.owesAt Pipeline.owesWithin
  iintro ⟨HΦ, ⟨%W, %hW, HO⟩, ⟨%d0, H0⟩, ⟨%d1, H1⟩, ⟨%d2, H2⟩, ⟨%d3, H3⟩⟩
  iapply (point c (grid0.coords t) (st0_0 (F := F) t) (hstage0_0 (((cfg0 (F := F)).slots t 0).cast nbuf0_0)) (st0_1 (F := F) t) (hstage0_1 (((cfg0 (F := F)).slots t 1).cast nbuf0_1))
    (st0_2 (F := F) t) (hstage0_2 (((cfg0 (F := F)).slots t 2).cast nbuf0_2)) (st0_3 (F := F) t) (hstage0_3 (((cfg0 (F := F)).slots t 3).cast nbuf0_3)) (iblk m c 0 t) (iblk m c 1 t)
    ((dats m 0 c).before 2 t d2) ((dats m 0 c).before 3 t d3) _)
  isplitl [HΦ]; · iexact HΦ
  isplitl [H0]; · rw [← before_0 m c t d0]; iexact H0
  isplitl [H1]; · rw [← before_1 m c t d1]; iexact H1
  isplitl [H2]; · iexact H2
  isplitl [H3]; · iexact H3
  iintro ⟨HΦ, H0, H1, H2, H3⟩
  isplitl [HΦ]; · iexact HΦ
  isplitl [HO]
  · iexists W; isplitr; · ipureintro; exact fun _ _ => Or.inl trivial
    iexact HO
  isplitl [H0]; · iexact H0
  isplitl [H1]; · iexact H1
  isplitl [H2]; · iexact H2
  iexact H3

end Cert.Proof.KI
-- ==== Proof.KI.Whole.lean ====
/-
  The kernel's program, whole: it ends with its arguments as they were, every counter at zero, the results' arrays at the
  blocks the grid's points wrote, cut and turned by the host lines.
-/
module

public import proofs.«01_k».proof.Proof.KI.Run

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (g : Dev nD → PrngReg)

/-- The first host line writes the reshaped argument alone; -/
theorem kept0 (b : Ref sig .tc) (hb : b ≠ main_v0) : ∀ op ∈ (hostOps0 (F := F)), Proc.devRef .tc b ∉ op.writes := by
  intro op hop
  simp only [List.mem_cons, List.mem_nil_iff, or_false] at hop
  subst hop
  simp only [StableHlo.reshape_writes, StableHlo.unary_writes, Finset.mem_singleton]
  exact StableHlo.devRef_ne_of_ne hb

/-- the last four write the cut and the turned results. -/
theorem kept1 (b : Ref sig .tc) (hb : b ≠ main_v2 ∧ b ≠ main_v3 ∧ b ≠ main_v4 ∧ b ≠ main_v5) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, Finset.mem_singleton] <;>
    exact StableHlo.devRef_ne_of_ne ‹_›

theorem tail_fresh : ∀ op ∈ (hostOps1 (F := F)), op.fresh = ∅ := by
  intro op hop
  simp only [List.mem_cons, List.mem_nil_iff, or_false] at hop
  rcases hop with rfl | rfl | rfl | rfl <;> rfl

/-- A window's array at the end. -/
def finalA (c : Dev nD) (w : Fin (cfg0 (F := F)).W) : Buf (Elt F) (((cfg0 (F := F)).win w).arr.view.loc (c : Thread nD τ)) :=
  (dats m 0 c).arrAt w (cfg0 (F := F)).N

/-- The two results' arrays, at their shapes. -/
def finalP (c : Dev nD) : FVec F S4x20x896 .f32 := finalA m c 2
def finalB (c : Dev nD) : FVec F S4x8x896 .f32 := finalA m c 3

/-- Core `c`'s two results at the end. -/
def finalProb (c : Dev nD) : main_v3.ty.Contents (Elt F) :=
  transpose S4x845x20 [0, 2, 1] (extractStridedSlice S4x20x845 ![0, 0, 0] (finalP m c) slices_S4x20x896_S4x20x845_0_0_0) transposes_S4x20x845_S4x845x20_0_2_1
def finalBox (c : Dev nD) : main_v5.ty.Contents (Elt F) :=
  transpose S4x845x4 [0, 2, 1] (extractStridedSlice S4x4x845 ![0, 0, 0] (finalB m c) slices_S4x8x896_S4x4x845_0_0_0) transposes_S4x4x845_S4x845x4_0_2_1

/-- The first argument is no window's array, nor are the turned results. -/
theorem other0 : ∀ w, Pipeline.arrRef spec0 w ≠ main_arg0 := by decide
theorem rest0 : main_arg0 ∈ Pipeline.restRefs sig spec0 := by decide
theorem rest3 : main_v3 ∈ Pipeline.restRefs sig spec0 := by decide
theorem rest5 : main_v5 ∈ Pipeline.restRefs sig spec0 := by decide

/-- What holds at the end. -/
def Ends (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v3) = finalProb m c
    ∧ r.2.mem ((c : Thread nD τ).loc main_v5) = finalBox m c

theorem tail_arg0 (c : Dev nD) :
    Pipeline.afterTail₀ (cfgs (F := F)) (dats m) 0 (V₀ m) [hostOps1] c main_arg0 = m ((c : Thread nD τ).loc main_arg0) := by
  unfold Pipeline.afterTail₀
  rw [List.flatten_singleton, StableHlo.after_of_forall_not_mem (b := Proc.devRef .tc main_arg0) hostOps1 _ (kept1 main_arg0 (by decide)),
    Pipeline.withArrays_of_ne _ _ _ _ main_arg0 other0]
  exact StableHlo.after_of_forall_not_mem (b := Proc.devRef .tc main_arg0) hostOps0 _ (kept0 main_arg0 (by decide))

theorem tail_prob (c : Dev nD) :
    Pipeline.afterTail₀ (cfgs (F := F)) (dats m) 0 (V₀ m) [hostOps1] c main_v3 = finalProb m c := by
  unfold Pipeline.afterTail₀ finalProb finalP finalA
  rw [List.flatten_singleton]
  rw [← Pipeline.withArrays_arr spec0 winFacts0.arr_inj c (V₀ m c) (fun w => (dats m 0 c).arrAt w (cfg0 (F := F)).N) 2]
  generalize Pipeline.withArrays spec0 c (V₀ m c) (fun w => (dats m 0 c).arrAt w (cfg0 (F := F)).N) = W
  rfl

theorem tail_box (c : Dev nD) :
    Pipeline.afterTail₀ (cfgs (F := F)) (dats m) 0 (V₀ m) [hostOps1] c main_v5 = finalBox m c := by
  unfold Pipeline.afterTail₀ finalBox finalB finalA
  rw [List.flatten_singleton]
  rw [← Pipeline.withArrays_arr spec0 winFacts0.arr_inj c (V₀ m c) (fun w => (dats m 0 c).arrAt w (cfg0 (F := F)).N) 3]
  generalize Pipeline.withArrays spec0 c (V₀ m c) (fun w => (dats m 0 c).arrAt w (cfg0 (F := F)).N) = W
  rfl

theorem finalA_1 (c : Dev nD) : finalA m c 1 = m ((c : Thread nD τ).loc main_arg1) :=
  ((dats m 0 c).arrAt_in 1 rfl _).trans ((A_eq m c 1).trans
    (StableHlo.after_of_forall_not_mem (b := Proc.devRef .tc main_arg1) hostOps0 _ (kept0 main_arg1 (by decide))))

set_option backward.isDefEq.respectTransparency.types false in
/-- The whole run. -/
theorem run [Halts F] : θ_run defs (onTc (τ := τ) (main (F := F))) ⟨m, fun _ => 0, g⟩ (fun r => Ends m r ∧ r.2.sem = fun _ => 0) :=
  Pipeline.θ_run_frame_around (cfgs (F := F)) (dats m) 0 launch0 defs₀ 𝒱₀ m g main
    (fun c => (body_obligation m c).loose) (fun c w => (dats m 0 c).share_full (fun _ => rfl) w) (fun _ _ => rfl)
    (V₀ m) [hostOps1]
    (by
      intro ops hops op hop
      rw [List.mem_singleton] at hops; subst hops
      exact Pipeline.sub_tailRefs _ _ op (List.forall_iff_forall_mem.mp hostOps1_sub op hop) (fun k => k.elim0))
    (by
      intro ops hops op hop
      rw [List.mem_singleton] at hops; subst hops
      exact tail_fresh op hop)
    (by
      intro ops hops op hop w
      rw [List.mem_singleton] at hops; subst hops
      revert w
      refine Fin.cases ?_ (Fin.cases ?_ (Fin.cases ?_ (Fin.cases ?_ fun w => w.elim0)))
      · exact kept1 main_v0 (by decide) op hop
      · exact kept1 main_arg1 (by decide) op hop
      · exact kept1 main_v1_0 (by decide) op hop
      · exact kept1 main_v1_1 (by decide) op hop)
    (Pipeline.hmain_around cfgs 0 defs₀ 𝒱₀ m main [hostOps0] [hostOps1] hostOps0_sub
      rfl main_chain)
    (A_eq m) (fun _ _ => rfl) (fun r => Ends m r ∧ r.2.sem = fun _ => 0)
    (fun r hr => ⟨fun c => ⟨((hr.1 c).2 main_arg0 rest0).trans (tail_arg0 m c), ((hr.1 c).1 1).trans (finalA_1 m c),
      ((hr.1 c).2 main_v3 rest3).trans (tail_prob m c), ((hr.1 c).2 main_v5 rest5).trans (tail_box m c)⟩, hr.2⟩)

end Cert.Proof.KI
-- ==== Proof.KI.Halts.lean ====
/-
  Why the `while` stops: a keep row holds zeros and ones, so its sum is a count of at most 896, and the loop goes on only
  while the count falls.
-/
module

public import proofs.«01_k».proof.Proof.KI.Loop

@[expose] public section

set_option maxRecDepth 16384

noncomputable section

namespace Cert.Proof.KI

open Cert.KernelIdeal Cert.KernelIdeal.Gen
open Idealize.ShloMosaic

variable {F : FTy → Type} [FloatOps F]

/-- A row of zeros and ones. -/
def Marks (r : FVec F S1x896 .bf16) : Prop := ∀ j, r j = kZero ∨ r j = kOne

/-- A row's sum. -/
def total (r : FVec F S1x896 .bf16) : F .f32 :=
  extractAt ![0, 0, 0] (shapeCast S1x1x1 (multiReduction .add [1, 2] S1 (shapeCast S1x1x896 (extf .f32 r bitsLt_bf16_f32) shapeCasts_S1x896_S1x1x896)
    0x00000000#32 reduces_S1x1x896_S1 (.inl rfl) rfl) shapeCasts_S1_S1x1x1) inpos_S1x1x1_p0_0_0

theorem marks_select (c : IVec S1x896 1) : Marks (F := F) (select c (broadcast S1x896 kZero) (broadcast S1x896 kOne)) := by
  intro j
  show Scalar.select (c j) kZero kOne = kZero ∨ Scalar.select (c j) kZero kOne = kOne
  unfold Scalar.select
  split
  · exact .inl rfl
  · exact .inr rfl

theorem marks_pay3 (r : FVec F S1x896 .bf16) (x y : FVec F S848x896 .bf16) : Marks (k0_pay3 kZero kOne r x y) := marks_select _
theorem marks_pay106 (r : FVec F S1x896 .bf16) (x y : FVec F S848x896 .bf16) : Marks (k0_pay106 r x y) := marks_select _

theorem pay4_total (r : FVec F S1x896 .bf16) (x y : FVec F S848x896 .bf16) : k0_pay4 kZero kOne r x y = total (k0_pay3 kZero kOne r x y) := rfl
theorem pay107_total (r : FVec F S1x896 .bf16) (x y : FVec F S848x896 .bf16) : k0_pay107 r x y = total (k0_pay106 r x y) := rfl

/-- Where sums of marks are counts and counts compare as numbers, the `while` stops. -/
theorem halts_of (enc : ℕ → F .f32) (hsum : ∀ r : FVec F S1x896 .bf16, Marks r → ∃ n, n ≤ 896 ∧ total r = enc n)
    (hgt : ∀ a b : ℕ, a ≤ 896 → b ≤ 896 → Scalar.cmpf .ogt (enc a) (enc b) = BitVec.ofBool (decide (b < a))) : Halts F := by
  refine ⟨fun sa sb => ?_⟩
  have key : ∀ k : ℕ, ((turn sa sb)^[k] (entry sa sb)).2.2 = 1#1 →
      ∃ n, n + k ≤ 896 ∧ ((turn sa sb)^[k] (entry sa sb)).2.1 = enc n := by
    intro k
    induction k with
    | zero =>
      intro _
      obtain ⟨n, hn, e⟩ := hsum _ (marks_pay106 (k0_pay9 sb sa sb sa) sb sa)
      exact ⟨n, hn, (pay107_total _ _ _).trans e⟩
    | succ k ih =>
      rw [Function.iterate_succ_apply']
      generalize (turn sa sb)^[k] (entry sa sb) = x at ih ⊢
      intro h
      by_cases hf : x.2.2 = 1#1
      · obtain ⟨n, hn, e⟩ := ih hf
        obtain ⟨n', hn', e'⟩ := hsum _ (marks_pay3 x.1 sb sa)
        have et : turn sa sb x = (k0_pay3 kZero kOne x.1 sb sa, k0_pay4 kZero kOne x.1 sb sa, Scalar.cmpf .ogt x.2.1 (k0_pay4 kZero kOne x.1 sb sa)) := if_pos hf
        rw [et] at h ⊢
        dsimp only at h ⊢
        rw [pay4_total, e', e, hgt n n' (by omega) hn'] at h
        refine ⟨n', ?_, (pay4_total _ _ _).trans e'⟩
        by_cases hl : n' < n
        · omega
        · rw [decide_eq_false hl] at h; exact absurd h (by decide)
      · rw [turn_stop sa sb x hf] at h; exact absurd h hf
  intro h
  unfold stopped at h
  obtain ⟨n, hn, _⟩ := key 900 h
  omega

end Cert.Proof.KI
-- ==== Proof.KI.HaltsIdeal.lean ====
/-
  The `while` stops at the extended reals: a sum of zeros and ones is a count.
-/
module

public import proofs.«01_k».proof.Proof.KI.Halts
public import Idealize.ShloMosaic.Lib.Pointwise

@[expose] public section

set_option maxRecDepth 16384

noncomputable section

namespace Cert.Proof.KI

open Cert.KernelIdeal Cert.KernelIdeal.Gen
open Idealize.ShloMosaic

theorem ext_zero : Scalar.extf .f32 bitsLt_bf16_f32 (kZero (F := Ideal)) = ((0 : ℕ) : EReal) := by
  pointwise; exact Nat.cast_zero.symm
theorem ext_one : Scalar.extf .f32 bitsLt_bf16_f32 (kOne (F := Ideal)) = ((1 : ℕ) : EReal) := by
  pointwise; exact Nat.cast_one.symm

theorem marks_sum (r : FVec Ideal S1x896 .bf16) (hr : Marks r) : ∃ n : ℕ, n ≤ 896 ∧ total r = ((n : ℕ) : EReal) := by
  have h1 : ∀ j, ∃ n : ℕ, n ≤ 1 ∧ Scalar.extf .f32 bitsLt_bf16_f32 (r j) = ((n : ℕ) : EReal) := by
    intro j
    rcases hr j with h | h <;> rw [h]
    · exact ⟨0, by decide, ext_zero⟩
    · exact ⟨1, le_refl _, ext_one⟩
  choose n hn hv using h1
  unfold total
  pointwise
  refine ⟨∑ x : Fin 896, n (ix2 0 x), ?_, ?_⟩
  · calc ∑ x : Fin 896, n (ix2 0 x) ≤ ∑ x : Fin 896, 1 := Finset.sum_le_sum fun x _ => hn _
      _ = 896 := by simp
  · rw [Fin.sum_univ_one, Nat.cast_sum]
    exact Finset.sum_congr rfl fun x _ => hv _

theorem gt_nat (a b : ℕ) : Scalar.cmpf (F := Ideal) (φ := .f32) .ogt ((a : ℕ) : EReal) ((b : ℕ) : EReal) = BitVec.ofBool (decide (b < a)) := by
  pointwise
  simp only [Nat.cast_lt]

instance : Halts Ideal := halts_of (fun n => ((n : ℕ) : EReal)) marks_sum fun a b _ _ => gt_nat a b

end Cert.Proof.KI
-- ==== Proof.Greedy.lean ====
/- The greedy choice, apart from any program. Items are taken in an order; an item survives when no survivor before it hits
   it. In a well-founded order there is one such choice. Two ways of computing it: item after item, and by applying twice
   "no item before it which is still in hits it" until nothing changes. -/
module

public import Idealize.ShloMosaic.Lib.Pointwise

@[expose] public section

namespace Cert.Proof.Greedy

section Choice

variable {ι : Type} (before hit : ι → ι → Prop)

/-- `G` is the greedy choice. -/
def Survives (G : ι → Prop) : Prop := ∀ j, G j ↔ ∀ i, before i j → hit i j → ¬G i

variable {before hit}

/-- Two sets each of which is what the other leaves are the same. -/
theorem same_of_swap (wf : WellFounded before) {K L : ι → Prop} (hK : ∀ j, K j ↔ ∀ i, before i j → hit i j → ¬L i)
    (hL : ∀ j, L j ↔ ∀ i, before i j → hit i j → ¬K i) : ∀ j, K j ↔ L j := fun j =>
  wf.induction (C := fun j => K j ↔ L j) j fun j ih => by
    rw [hK j, hL j]
    exact forall_congr' fun i => forall_congr' fun hb => by rw [ih i hb]

/-- The greedy choice is one. -/
theorem unique (wf : WellFounded before) {G H : ι → Prop} (hG : Survives before hit G) (hH : Survives before hit H) :
    ∀ j, G j ↔ H j := fun j =>
  wf.induction (C := fun j => G j ↔ H j) j fun j ih => by
    rw [hG j, hH j]
    exact forall_congr' fun i => forall_congr' fun hb => by rw [ih i hb]

/-- What two steps leave as it is, is the greedy choice. -/
theorem survives_of_twice (wf : WellFounded before) {K : ι → Prop}
    (h : ∀ j, K j ↔ ∀ i, before i j → hit i j → ¬∀ l, before l i → hit l i → ¬K l) : Survives before hit K := by
  have e := same_of_swap wf (L := fun i => ∀ l, before l i → hit l i → ¬K l) h fun _ => Iff.rfl
  exact fun j => e j

end Choice

section Trips

/-- Item after item: at trip `t` item `t`, if it is still in, puts out the later ones it hits. -/
def trip {n : ℕ} (hit : Fin n → Fin n → Prop) (t : Fin n) (K : Fin n → Prop) (p : Fin n) : Prop :=
  K p ∧ ¬((hit t p ∧ t < p) ∧ K t)

def trips {n : ℕ} (hit : Fin n → Fin n → Prop) : ℕ → Fin n → Prop
  | 0 => fun _ => True
  | t + 1 => fun p => if h : t < n then trip hit ⟨t, h⟩ (trips hit t) p else trips hit t p

variable {n : ℕ} (hit : Fin n → Fin n → Prop)

/-- Trip `t` decides nothing about the items up to `t`. -/
theorem trips_settled (p : Fin n) (t : ℕ) (h : p.val ≤ t) : trips hit t p ↔ trips hit p.val p := by
  induction t, h using Nat.le_induction with
  | base => rfl
  | succ t h ih =>
    rw [← ih]
    show (if h : t < n then trip hit ⟨t, h⟩ (trips hit t) p else trips hit t p) ↔ _
    split
    · refine ⟨fun e => e.1, fun e => ⟨e, fun q => ?_⟩⟩
      have : t < p.val := q.1.2
      omega
    · rfl

theorem trips_iff (p : Fin n) (t : ℕ) (ht : t ≤ n) :
    trips hit t p ↔ ∀ i : Fin n, i.val < t → i < p → hit i p → ¬trips hit i.val i := by
  induction t with
  | zero => exact ⟨fun _ i h => absurd h (Nat.not_lt_zero _), fun _ => trivial⟩
  | succ t ih =>
    have hs : trips hit (t + 1) p ↔ trip hit ⟨t, ht⟩ (trips hit t) p := by
      show (if h : t < n then trip hit ⟨t, h⟩ (trips hit t) p else trips hit t p) ↔ _
      rw [dif_pos (show t < n from ht)]
    rw [hs]
    unfold trip
    rw [ih (Nat.le_of_succ_le ht)]
    constructor
    · rintro ⟨h, h'⟩ i hi hp hh hk
      by_cases e : i.val = t
      · obtain rfl : i = ⟨t, ht⟩ := Fin.ext e
        exact h' ⟨⟨hh, hp⟩, hk⟩
      · exact h i (by omega) hp hh hk
    · intro h
      exact ⟨fun i hi => h i (by omega), fun q => h ⟨t, ht⟩ (Nat.lt_succ_self t) q.1.2 q.1.1 q.2⟩

/-- All trips make the greedy choice in the items' own order. -/
theorem survives_trips : Survives (· < ·) hit (trips hit n) := fun p => by
  rw [trips_iff hit p n le_rfl]
  refine ⟨fun h i hp hh => ?_, fun h i _ hp hh => ?_⟩
  · rw [trips_settled hit i n (Nat.le_of_lt i.isLt)]; exact h i i.isLt hp hh
  · rw [← trips_settled hit i n (Nat.le_of_lt i.isLt)]; exact h i hp hh

/-- The same choice on the items as they were before they were put in order by `σ`. -/
theorem survives_of_order {before hit' : Fin n → Fin n → Prop} (σ : Fin n → Fin n) (hσ : Function.Bijective σ)
    (hb : ∀ p q, p < q ↔ before (σ p) (σ q)) (hh : ∀ p q, hit p q ↔ hit' (σ p) (σ q)) {G : Fin n → Prop}
    (hG : Survives before hit' G) (wf : WellFounded (· < · : Fin n → Fin n → Prop)) (p : Fin n) : trips hit n p ↔ G (σ p) := by
  refine unique wf (survives_trips hit) (H := fun p => G (σ p)) (fun q => ?_) p
  show G (σ q) ↔ _
  rw [hG (σ q)]
  constructor
  · intro h i hi hq
    exact h (σ i) ((hb _ _).mp hi) ((hh _ _).mp hq)
  · intro h i hi hq
    obtain ⟨i, rfl⟩ := hσ.2 i
    exact h i ((hb _ _).mpr hi) ((hh _ _).mpr hq)

end Trips

section Descent

variable {κ τ : Type} (A B : κ → τ → Prop)

/-- Two steps at once between rows and lanes. -/
def twice (K : τ → Prop) (j : τ) : Prop := ¬∃ i, A i j ∧ ¬∃ l, B i l ∧ K l

theorem twice_mono {K L : τ → Prop} (h : ∀ j, K j → L j) (j : τ) (hj : twice A B K j) : twice A B L j :=
  fun ⟨i, ha, hn⟩ => hj ⟨i, ha, fun ⟨l, hb, hk⟩ => hn ⟨l, hb, h l hk⟩⟩

theorem twice_iter_le (n : ℕ) (j : τ) (h : (twice A B)^[n + 1] (fun _ => True) j) : (twice A B)^[n] (fun _ => True) j := by
  induction n generalizing j with
  | zero => trivial
  | succ n ih => rw [Function.iterate_succ_apply'] at h ⊢; exact twice_mono A B ih j h

end Descent

end Cert.Proof.Greedy

end
-- ==== Proof.Spec.lean ====
/-
  What both programs compute, element by element, over the extended reals: from one image's channels and its two sizes the
  boxes and the class scores; the overlap of two boxes; the order in which the suppression takes the boxes.
-/
module

public import proofs.«01_k».proof.Proof.Greedy
public import Idealize.ShloMosaic.Lib.Pointwise

@[expose] public section

noncomputable section

namespace Cert.Proof.Spec

open Idealize.ShloMosaic

/-- A float's word as the number it stands for. -/
abbrev num (w : BitVec 32) : EReal := Ideal.ofBits FTy.f32 w

/-- A cell's column and row on the 13 by 13 grid, as numbers. -/
abbrev whole (k : ℕ) : EReal := FloatOps.sitofp (F := Ideal) .f32 (BitVec.ofNat 32 k)

/-- The anchors' widths and heights. -/
def biasW (a : Fin 5) : BitVec 32 := ![0x3F8A3D71#32, 0x405AE148#32, 0x40D428F6#32, 0x4116B852#32, 0x4184F5C3#32] a
def biasH (a : Fin 5) : BitVec 32 := ![0x3F9851EC#32, 0x408D1EB8#32, 0x4136147B#32, 0x40A3851F#32, 0x412851EC#32] a

def sig (t : EReal) : EReal := Ideal.logistic t

/-- A box's corners along one axis: the centre less, or with, half the extent, by the image's size. -/
def lo (bias : BitVec 32) (t s g w : EReal) : EReal :=
  (Ideal.div (sig t + g) (num 0x41500000#32) - Ideal.div (Ideal.div (num bias * Ideal.exp s) (num 0x41500000#32)) (num 0x40000000#32)) * w
def hi (bias : BitVec 32) (t s g w : EReal) : EReal :=
  (Ideal.div (sig t + g) (num 0x41500000#32) + Ideal.div (Ideal.div (num bias * Ideal.exp s) (num 0x41500000#32)) (num 0x40000000#32)) * w

section Image

variable (h w : EReal) (X : Fin 125 → Fin 169 → EReal)

/-- The corners of anchor `a`'s box at cell `p`: x1, y1, x2, y2. -/
def corner (a : Fin 5) (p : Fin 169) : Fin 4 → EReal :=
  ![lo (biasW a) (X ⟨2 * a.val, by omega⟩ p) (X ⟨10 + 2 * a.val, by omega⟩ p) (whole (p.val % 13)) w,
    lo (biasH a) (X ⟨1 + 2 * a.val, by omega⟩ p) (X ⟨11 + 2 * a.val, by omega⟩ p) (whole (p.val / 13)) h,
    hi (biasW a) (X ⟨2 * a.val, by omega⟩ p) (X ⟨10 + 2 * a.val, by omega⟩ p) (whole (p.val % 13)) w,
    hi (biasH a) (X ⟨1 + 2 * a.val, by omega⟩ p) (X ⟨11 + 2 * a.val, by omega⟩ p) (whole (p.val / 13)) h]

/-- The class channels' exponentials relative to the greatest, -/
def rel (a : Fin 5) (p : Fin 169) (k : Fin 20) : EReal :=
  Ideal.exp (X ⟨25 + 20 * a.val + k.val, by omega⟩ p
    - Finset.fold max (num 0xFF800000#32) (fun l : Fin 20 => X ⟨25 + 20 * a.val + l.val, by omega⟩ p) Finset.univ)
/-- and the class scores: the softmax by the objectness, nothing where it is not above zero. -/
def raw (a : Fin 5) (p : Fin 169) (k : Fin 20) : EReal :=
  Ideal.div (rel X a p k) (∑ l : Fin 20, rel X a p l) * sig (X ⟨20 + a.val, by omega⟩ p)
def pos (s : EReal) : EReal := if 0 < s then s else 0

/-- A box's anchor and cell from its number. -/
abbrev anch (n : Fin 845) : Fin 5 := ⟨n.val / 169, by omega⟩
abbrev cell (n : Fin 845) : Fin 169 := ⟨n.val % 169, Nat.mod_lt _ (by decide)⟩

def box (n : Fin 845) (q : Fin 4) : EReal := corner h w X (anch n) (cell n) q
def score (k : Fin 20) (n : Fin 845) : EReal := pos (raw X (anch n) (cell n) k)

end Image

/-! ### Overlap -/

def areaOf (x1 y1 x2 y2 : EReal) : EReal := max (x2 - x1) 0 * max (y2 - y1) 0
def meet (a1 a2 b1 b2 : EReal) : EReal := max (min a2 b2 - max a1 b1) 0
def ratio (inter ai aj : EReal) : EReal := Ideal.div inter (max (ai + aj - inter) (num 0x2B8CBCCC#32))

variable {n : ℕ} (B : Fin n → Fin 4 → EReal)

def inter (i j : Fin n) : EReal := meet (B i 0) (B i 2) (B j 0) (B j 2) * meet (B i 1) (B i 3) (B j 1) (B j 3)
def area (i : Fin n) : EReal := areaOf (B i 0) (B i 1) (B i 2) (B i 3)
def iou (i j : Fin n) : EReal := ratio (inter B i j) (area B i) (area B j)
/-- Two boxes overlap by more than the threshold. -/
def hit (i j : Fin n) : Prop := num 0x3EE66666#32 < iou B i j

theorem meet_symm (a1 a2 b1 b2 : EReal) : meet a1 a2 b1 b2 = meet b1 b2 a1 a2 := by
  unfold meet; rw [min_comm, max_comm a1]

theorem hit_symm (i j : Fin n) : hit B i j ↔ hit B j i := by
  have hi : inter B i j = inter B j i := by
    unfold inter; rw [meet_symm (B i 0), meet_symm (B i 1)]
  unfold hit iou ratio
  rw [hi, add_comm (area B i)]

/-! ### The order -/

/-- The higher score first, of equal scores the lower number. -/
def before (s : Fin n → EReal) (i j : Fin n) : Prop := s j < s i ∨ (s i = s j ∧ i < j)

theorem before_wf (s : Fin n → EReal) : WellFounded (before s) := by
  have ht : IsTrans (Fin n) (before s) := ⟨fun a b c hab hbc => by
    rcases hab with h | ⟨e, h⟩ <;> rcases hbc with h' | ⟨e', h'⟩
    · exact .inl (lt_trans h' h)
    · exact .inl (e' ▸ h)
    · exact .inl (e ▸ h')
    · exact .inr ⟨e.trans e', lt_trans h h'⟩⟩
  have hi : IsIrrefl (Fin n) (before s) := ⟨fun a h => h.elim (lt_irrefl _) fun h => lt_irrefl _ h.2⟩
  exact Finite.wellFounded_of_trans_of_irrefl _

theorem before_total (s : Fin n → EReal) {i j : Fin n} (h : i ≠ j) : before s i j ∨ before s j i := by
  rcases lt_trichotomy (s i) (s j) with l | e | l
  · exact .inr (.inl l)
  · rcases lt_or_gt_of_ne h with l | l
    · exact .inl (.inr ⟨e, l⟩)
    · exact .inr (.inr ⟨e.symm, l⟩)
  · exact .inl (.inl l)

theorem before_asymm (s : Fin n → EReal) {i j : Fin n} (h : before s i j) : ¬before s j i := fun h' => by
  rcases h with h | ⟨e, h⟩ <;> rcases h' with h' | ⟨e', h'⟩
  · exact lt_asymm h h'
  · exact absurd h (by rw [e']; exact lt_irrefl _)
  · exact absurd h' (by rw [e]; exact lt_irrefl _)
  · exact lt_asymm h h'

/-- The greedy choice among the boxes `B` by the scores `s`. -/
def Chosen (s : Fin n → EReal) (G : Fin n → Prop) : Prop := Greedy.Survives (before s) (hit B) G

theorem chosen_unique {s : Fin n → EReal} {G H : Fin n → Prop} (hG : Chosen B s G) (hH : Chosen B s H) (j : Fin n) : G j ↔ H j :=
  Greedy.unique (before_wf s) hG hH j

end Cert.Proof.Spec

end
-- ==== Proof.KI.Tables.lean ====
/-
  The kernel's tables, element by element: the box table, the score table and the overlap table of one image hold what the
  specification says, and nothing on the lanes beyond the 845 boxes.
-/
module

public import proofs.«01_k».proof.Proof.KI.Decode
public import proofs.«01_k».proof.Proof.Spec

@[expose] public section

set_option maxRecDepth 16384

noncomputable section

namespace Cert.Proof.KI

open Cert.KernelIdeal Cert.KernelIdeal.Gen
open Idealize.ShloMosaic
open scoped Classical

/-! ### Reading lines and columns -/

theorem cut9_at (g : FVec Ideal S896x24 .f32) (i : Fin 848) (x : Fin 24) : cut9 (F := Ideal) g (ix2 i x) = g (ix2 ⟨i.val, by omega⟩ x) := by
  refine congrArg g (funext fun d => Fin.ext ?_)
  refine Fin.cases ?_ (fun d => Fin.cases ?_ (fun d => d.elim0) d) d
  · show 0 + 1 * i.val = i.val; omega
  · show 0 + 1 * x.val = x.val; omega
theorem lineR_at (cd : FVec Ideal S8x896 .f32) (r : ℕ) (hr : r < 8) (h) (j : Fin 896) : lineR (F := Ideal) cd r h (ix2 0 j) = cd (ix2 ⟨r, hr⟩ j) := by
  refine congrArg cd (funext fun d => Fin.ext ?_)
  refine Fin.cases ?_ (fun d => Fin.cases ?_ (fun d => d.elim0) d) d
  · show r + 1 * 0 = r; omega
  · show 0 + 1 * j.val = j.val; omega
theorem lineC_at (cd : FVec Ideal S896x8 .f32) (r : ℕ) (hr : r < 8) (h) (i : Fin 848) : lineC (F := Ideal) cd r h (ix2 i 0) = cd (ix2 ⟨i.val, by omega⟩ ⟨r, hr⟩) := by
  refine congrArg cd (funext fun d => Fin.ext ?_)
  refine Fin.cases ?_ (fun d => Fin.cases ?_ (fun d => d.elim0) d) d
  · show 0 + 1 * i.val = i.val; omega
  · show r + 1 * 0 = r; omega

/-! ### The grid's numbers -/

theorem col_at (p : Fin 169) : gridCol (F := Ideal) (ix2 0 p) = Spec.whole (p.val % 13) := by
  unfold gridCol k0_pay11
  pointwise
  refine congrArg (FloatOps.sitofp (F := Ideal) .f32) ?_
  revert p
  decide +kernel

theorem row_at (p : Fin 169) : gridRow (F := Ideal) (ix2 0 p) = Spec.whole (p.val / 13) := by
  unfold gridRow k0_pay15 k0_pay12 k0_pay13 k0_pay14
  pointwise
  refine congrArg (FloatOps.sitofp (F := Ideal) .f32) ?_
  revert p
  decide +kernel

section Image

variable (w0 w1 : EReal) (x : FVec Ideal S1x125x169 .f32)

/-- The block's channels. -/
abbrev img : Fin 125 → Fin 169 → EReal := fun c p => x (ix3 0 c p)

theorem chan_at (r : ℕ) (h) (p : Fin 169) : chan (F := Ideal) x r h (ix2 0 p) = img x ⟨r, by omega⟩ p := by
  unfold chan k0_pay10
  pointwise

theorem lower_at (w : EReal) (bias : BitVec 32) (t s g : FVec Ideal S1x169 .f32) (p : Fin 169) :
    lower (F := Ideal) w bias t s g (ix2 0 p) = Spec.lo bias (t (ix2 0 p)) (s (ix2 0 p)) (g (ix2 0 p)) w := by
  unfold lower centre half all
  pointwise
  rfl
theorem upper_at (w : EReal) (bias : BitVec 32) (t s g : FVec Ideal S1x169 .f32) (p : Fin 169) :
    upper (F := Ideal) w bias t s g (ix2 0 p) = Spec.hi bias (t (ix2 0 p)) (s (ix2 0 p)) (g (ix2 0 p)) w := by
  unfold upper centre half all
  pointwise
  rfl

theorem x1_at (a : Fin 5) (p : Fin 169) : rowX1 (F := Ideal) w1 x a (ix2 0 p) = Spec.corner w0 w1 (img x) a p 0 := by
  unfold rowX1; rw [lower_at, chan_at, chan_at, col_at]; rfl
theorem y1_at (a : Fin 5) (p : Fin 169) : rowY1 (F := Ideal) w0 x a (ix2 0 p) = Spec.corner w0 w1 (img x) a p 1 := by
  unfold rowY1; rw [lower_at, chan_at, chan_at, row_at]; rfl
theorem x2_at (a : Fin 5) (p : Fin 169) : rowX2 (F := Ideal) w1 x a (ix2 0 p) = Spec.corner w0 w1 (img x) a p 2 := by
  unfold rowX2; rw [upper_at, chan_at, chan_at, col_at]; rfl
theorem y2_at (a : Fin 5) (p : Fin 169) : rowY2 (F := Ideal) w0 x a (ix2 0 p) = Spec.corner w0 w1 (img x) a p 3 := by
  unfold rowY2; rw [upper_at, chan_at, chan_at, row_at]; rfl

theorem cast_self (v : FVec Ideal S1x169 .f32) (h) (p : Fin 169) : shapeCast S1x169 v h (ix2 0 p) = v (ix2 0 p) := by
  pointwise

theorem boxRow_at (a : Fin 5) (p : Fin 169) (q : Fin 4) :
    boxRow (F := Ideal) w0 w1 x a ⟨q.val, by omega⟩ (ix2 0 p) = Spec.corner w0 w1 (img x) a p q := by
  revert q
  refine Fin.cases ?_ (Fin.cases ?_ (Fin.cases ?_ (Fin.cases ?_ fun q => q.elim0)))
  · exact (cast_self _ _ p).trans (x1_at w0 w1 x a p)
  · exact (cast_self _ _ p).trans (y1_at w0 w1 x a p)
  · exact (cast_self _ _ p).trans (x2_at w0 w1 x a p)
  · exact (cast_self _ _ p).trans (y2_at w0 w1 x a p)

theorem areaRow_at (a : Fin 5) (p : Fin 169) :
    boxRow (F := Ideal) w0 w1 x a 4 (ix2 0 p) = Spec.areaOf (Spec.corner w0 w1 (img x) a p 0) (Spec.corner w0 w1 (img x) a p 1)
      (Spec.corner w0 w1 (img x) a p 2) (Spec.corner w0 w1 (img x) a p 3) := by
  show shapeCast S1x169 (rowArea (F := Ideal) w0 w1 x a) shapeCasts_S1x169_S1x169 (ix2 0 p) = _
  rw [cast_self]
  unfold rowArea all
  pointwise
  rw [x1_at w0 w1, y1_at w0 w1, x2_at w0 w1, y2_at w0 w1]
  rfl

theorem scoreRow_at (a : Fin 5) (p : Fin 169) (k : Fin 20) : scoreRows (F := Ideal) x a (ix2 k p) = Spec.raw (img x) a p k := by
  unfold scoreRows relExp confOf chan
  unfold k0_pay10
  pointwise
  rfl

/-! ### The tables -/

theorem boxes_corner (n : Fin 845) (q : Fin 4) :
    boxes (F := Ideal) w0 w1 x (ix2 (n0 := 8) (n1 := 896) ⟨q.val, by omega⟩ ⟨n.val, by omega⟩) = Spec.box w0 w1 (img x) n q := by
  unfold boxes boxTable
  refine (dif_pos ⟨show q.val < 5 by omega, show n.val < 845 from n.isLt⟩).trans ?_
  exact boxRow_at w0 w1 x _ _ q

theorem boxes_area (n : Fin 845) :
    boxes (F := Ideal) w0 w1 x (ix2 (n0 := 8) (n1 := 896) 4 ⟨n.val, by omega⟩) = Spec.area (Spec.box w0 w1 (img x)) n := by
  unfold boxes boxTable
  refine (dif_pos ⟨show (4 : ℕ) < 5 by omega, show n.val < 845 from n.isLt⟩).trans ?_
  exact areaRow_at w0 w1 x _ _

theorem boxes_pad (r : Fin 8) (j : Fin 896) (h : ¬j.val < 845) : boxes (F := Ideal) w0 w1 x (ix2 r j) = 0 := by
  unfold boxes boxTable
  rw [dif_neg (fun e => h e.2)]
  unfold k0_pay17
  pointwise

theorem scores_at (k : Fin 20) (n : Fin 845) :
    scores (F := Ideal) x (ix2 (n0 := 24) (n1 := 896) ⟨k.val, by omega⟩ ⟨n.val, by omega⟩) = Spec.score (img x) k n := by
  have h : ∀ (v : FVec Ideal S24x896 .f32) (i : Fin 24) (j : Fin 896), k0_pay100 (F := Ideal) (k0_pay99 v) (ix2 i j) = Spec.pos (v (ix2 i j)) := by
    intro v i j
    unfold k0_pay100 k0_pay99
    pointwise
    rfl
  unfold scores
  rw [h]
  unfold Spec.score scoreTable
  refine congrArg Spec.pos ((dif_pos ⟨show k.val < 20 from k.isLt, show n.val < 845 from n.isLt⟩).trans ?_)
  exact scoreRow_at x _ _ k

/-! ### The overlap table -/

/-- The overlap of row `i`'s and lane `j`'s entries in a table of corners and areas. -/
def overRatio (cd : FVec Ideal S8x896 .f32) (i j : Fin 896) : EReal :=
  Spec.ratio (Spec.meet (cd (ix2 0 i)) (cd (ix2 2 i)) (cd (ix2 0 j)) (cd (ix2 2 j)) * Spec.meet (cd (ix2 1 i)) (cd (ix2 3 i)) (cd (ix2 1 j)) (cd (ix2 3 j)))
    (cd (ix2 4 i)) (cd (ix2 4 j))

theorem transposed (v : FVec Ideal S8x896 .f32) (i : Fin 8) (j : Fin 896) : k0_pay102 (F := Ideal) v (ix2 j i) = v (ix2 i j) := by
  unfold k0_pay102
  pointwise

theorem bit_cases : ∀ b : BitVec 1, b = 0#1 ∨ b = 1#1 := by decide

theorem both_marks (p q : Prop) [Decidable p] [Decidable q] (b : BitVec 1) (hb : b = 1#1 ↔ q) :
    Scalar.select (IntOp.andi (BitVec.ofBool (decide p)) b) (1 : EReal) 0 = if p ∧ q then 1 else 0 := by
  by_cases hp : p <;> by_cases hq : q
  · rw [hb.mpr hq, decide_eq_true hp, if_pos ⟨hp, hq⟩]; rfl
  · have e : b = 0#1 := by
      rcases bit_cases b with e | e
      · exact e
      · exact absurd (hb.mp e) hq
    rw [e, decide_eq_true hp, if_neg (fun h => hq h.2)]; rfl
  · rw [hb.mpr hq, decide_eq_false hp, if_neg (fun h => hp h.1)]; rfl
  · have e : b = 0#1 := by
      rcases bit_cases b with e | e
      · exact e
      · exact absurd (hb.mp e) hq
    rw [e, decide_eq_false hp, if_neg (fun h => hq h.2)]; rfl

theorem ne_word (i j : ℕ) (hi : i < 848) (hj : j < 896) : IntOp.cmpi .ne (BitVec.ofNat 32 i) (BitVec.ofNat 32 j) = 1#1 ↔ i ≠ j :=
  WordCmp.cmpi_ne_ofNat_eq_one_iff (by omega) (by omega)

theorem overlapOf_at (cd : FVec Ideal S8x896 .f32) (i : Fin 848) (j : Fin 896) :
    overlapOf (F := Ideal) cd (k0_pay102 (F := Ideal) cd) (ix2 i j)
      = if Spec.num 0x3EE66666#32 < overRatio cd ⟨i.val, by omega⟩ j ∧ i.val ≠ j.val then 1 else 0 := by
  have h : ∀ (c0 c1 c2 c3 c4 : FVec Ideal S848x1 .f32) (r0 r1 r2 r3 r4 : FVec Ideal S1x896 .f32),
      k0_pay105 (F := Ideal) c1 c3 c4 r0 r1 r3 r4 idRow idLane (k0_pay103 (F := Ideal) c2 r2) (k0_pay104 (F := Ideal) c0) (ix2 i j)
        = if Spec.num 0x3EE66666#32 < Spec.ratio (Spec.meet (c0 (ix2 i 0)) (c2 (ix2 i 0)) (r0 (ix2 0 j)) (r2 (ix2 0 j))
            * Spec.meet (c1 (ix2 i 0)) (c3 (ix2 i 0)) (r1 (ix2 0 j)) (r3 (ix2 0 j))) (c4 (ix2 i 0)) (r4 (ix2 0 j)) ∧ i.val ≠ j.val then 1 else 0 := by
    intro c0 c1 c2 c3 c4 r0 r1 r2 r3 r4
    unfold k0_pay105 k0_pay103 k0_pay104
    pointwise
    exact both_marks _ _ _ (ne_word i.val j.val i.isLt j.isLt)
  unfold overlapOf
  rw [h, lineC_at _ 0 (by omega), lineC_at _ 1 (by omega), lineC_at _ 2 (by omega), lineC_at _ 3 (by omega), lineC_at _ 4 (by omega),
    lineR_at _ 0 (by omega), lineR_at _ 1 (by omega), lineR_at _ 2 (by omega), lineR_at _ 3 (by omega), lineR_at _ 4 (by omega)]
  simp only [transposed]
  rfl

/-- A lane without a box overlaps nothing. -/
theorem ratio_zero (b1 b2 : EReal) (ai aj v : EReal) : Spec.ratio (Spec.meet 0 0 b1 b2 * v) ai aj = 0 := by
  have hm : Spec.meet 0 0 b1 b2 = 0 := by
    unfold Spec.meet
    refine max_eq_right ?_
    refine (EReal.sub_le_sub (min_le_left 0 b2) (le_max_left 0 b1)).trans ?_
    simp
  have hp : (0 : EReal) < Spec.num 0x2B8CBCCC#32 := by
    simp [Ideal.ofBits, Ideal.ieee]
    refine EReal.mul_pos ?_ ?_ <;> exact_mod_cast (by positivity)
  unfold Spec.ratio Ideal.div
  rw [hm, zero_mul, if_neg (ne_of_gt (lt_of_lt_of_le hp (le_max_right _ _))), zero_mul]

/-- Lanes `i` and `j` hold two boxes which overlap. -/
def Over (w0 w1 : EReal) (X : Fin 125 → Fin 169 → EReal) (i j : ℕ) : Prop :=
  ∃ (hi : i < 845) (hj : j < 845), Spec.hit (Spec.box w0 w1 X) ⟨i, hi⟩ ⟨j, hj⟩ ∧ i ≠ j

theorem thr_pos : ¬Spec.num 0x3EE66666#32 < 0 := by
  simp [Ideal.ofBits, Ideal.ieee]
  refine EReal.mul_nonneg ?_ ?_ <;> exact_mod_cast (by positivity)

theorem overlap_at (i : Fin 848) (j : Fin 896) :
    overlap (F := Ideal) w0 w1 x (ix2 i j) = if Over w0 w1 (img x) i.val j.val then 1 else 0 := by
  unfold overlap
  rw [overlapOf_at]
  refine if_congr ?_ rfl rfl
  by_cases hi : i.val < 845
  · by_cases hj : j.val < 845
    · have e : overRatio (boxes (F := Ideal) w0 w1 x) ⟨i.val, by omega⟩ j = Spec.iou (Spec.box w0 w1 (img x)) ⟨i.val, hi⟩ ⟨j.val, hj⟩ := by
        have hc : ∀ (l : Fin 845) (q : Fin 4), boxes (F := Ideal) w0 w1 x (ix2 (n0 := 8) (n1 := 896) ⟨q.val, by omega⟩ ⟨l.val, by omega⟩) = _ := boxes_corner w0 w1 x
        unfold overRatio Spec.iou Spec.inter
        rw [← boxes_area w0 w1 x ⟨i.val, hi⟩, ← boxes_area w0 w1 x ⟨j.val, hj⟩]
        simp only [← boxes_corner w0 w1 x]
        rfl
      rw [e]
      exact ⟨fun h => ⟨hi, hj, h⟩, fun ⟨_, _, h⟩ => h⟩
    · have e : overRatio (boxes (F := Ideal) w0 w1 x) ⟨i.val, by omega⟩ j = 0 := by
        unfold overRatio
        simp only [boxes_pad w0 w1 x _ j hj]
        rw [Spec.meet_symm, ratio_zero]
      rw [e]
      exact ⟨fun h => absurd h.1 thr_pos, fun ⟨_, h, _⟩ => absurd h hj⟩
  · have e : overRatio (boxes (F := Ideal) w0 w1 x) ⟨i.val, by omega⟩ j = 0 := by
      unfold overRatio
      simp only [boxes_pad w0 w1 x _ ⟨i.val, by omega⟩ hi]
      rw [ratio_zero]
    rw [e]
    exact ⟨fun h => absurd h.1 thr_pos, fun ⟨h, _⟩ => absurd h hi⟩

end Image

end Cert.Proof.KI

end
-- ==== Proof.KI.Suppress.lean ====
/-
  The kernel's suppression of one class, on rows of marks. The overlap table split in two is two relations between rows and
  lanes; a row of marks is a set of lanes. A turn of the kernel's `while` takes the set two steps of "what nothing that is
  still in, puts out" at once; the sets fall, and where the count stops falling the set has stopped changing.
-/
module

public import proofs.«01_k».proof.Proof.KI.HaltsIdeal
public import proofs.«01_k».proof.Proof.Greedy

@[expose] public section

set_option maxRecDepth 16384

noncomputable section

namespace Cert.Proof.KI

open Cert.KernelIdeal Cert.KernelIdeal.Gen
open Idealize.ShloMosaic
open scoped Classical
open Greedy (twice)

/-- A table which marks the relation `A`, -/
def Table (t : FVec Ideal S848x896 .bf16) (A : Fin 848 → Fin 896 → Prop) : Prop := ∀ i j, t (ix2 i j) = if A i j then (1 : EReal) else 0
/-- a row which marks the set `K`. -/
def Row (r : FVec Ideal S1x896 .bf16) (K : Fin 896 → Prop) : Prop := ∀ j, r (ix2 0 j) = if K j then (1 : EReal) else 0

theorem low : ¬(0 : EReal) < Ideal.ofBits FTy.bf16 65408#16 := by
  simp [Ideal.ofBits, Ideal.ieee]

/-- The maximum of marks is above zero where there is a mark. -/
theorem any_mark {n : ℕ} (f : Fin n → EReal) : (0 : EReal) < Finset.fold max (Ideal.ofBits FTy.bf16 65408#16) f Finset.univ ↔ ∃ x, 0 < f x := by
  rw [Finset.lt_fold_max]
  constructor
  · rintro (h | ⟨x, _, h⟩)
    · exact absurd h low
    · exact ⟨x, h⟩
  · rintro ⟨x, h⟩
    exact .inr ⟨x, Finset.mem_univ x, h⟩

theorem mark_and (p q : Prop) [Decidable p] [Decidable q] : (0 : EReal) < (if p then 1 else 0) * (if q then 1 else 0) ↔ p ∧ q := by
  by_cases hp : p <;> by_cases hq : q <;> simp [hp, hq]

theorem mark_only (p : Prop) [Decidable p] : (0 : EReal) < (if p then 1 else 0) ↔ p := by
  by_cases hp : p <;> simp [hp]

theorem mark_not (p q : Prop) [Decidable p] [Decidable q] (h : p ↔ ¬q) : (if p then 0 else 1 : EReal) = if q then 1 else 0 := by
  by_cases hq : q <;> simp [h, hq]

section Steps

variable {sa sb : FVec Ideal S848x896 .bf16} {A B : Fin 848 → Fin 896 → Prop} (ha : Table sa A) (hb : Table sb B)
include ha hb

/-- The two steps, read off the maxima. -/
theorem two_steps (f : Fin 848 → Fin 896 → EReal) (K : Fin 896 → Prop) (hf : ∀ i l, 0 < f i l ↔ B i l ∧ K l) (j : Fin 896) :
    (if (0 : EReal) < Finset.fold max (Ideal.ofBits FTy.bf16 65408#16)
        (fun x => sa (ix2 x j) * if (0 : EReal) < Finset.fold max (Ideal.ofBits FTy.bf16 65408#16) (f x) Finset.univ then 0 else 1) Finset.univ
      then (0 : EReal) else 1) = if twice A B K j then 1 else 0 := by
  refine mark_not _ _ ?_
  rw [any_mark]
  unfold twice
  rw [not_not]
  refine exists_congr fun x => ?_
  rw [ha, mark_not _ (¬∃ l, B x l ∧ K l) (by rw [any_mark, not_not]; exact exists_congr fun l => hf x l), mark_and]

theorem row_pay3 {r : FVec Ideal S1x896 .bf16} {K : Fin 896 → Prop} (hr : Row r K) : Row (k0_pay3 kZero kOne r sb sa) (twice A B K) := by
  intro j
  unfold k0_pay3
  pointwise
  exact two_steps ha hb (fun x y => sb (ix2 x y) * r (ix2 0 y)) K (fun i l => by rw [hb, hr, mark_and]) j

theorem row_pay106 {r : FVec Ideal S1x896 .bf16} {K : Fin 896 → Prop} (hr : Row r K) : Row (k0_pay106 r sb sa) (twice A B K) :=
  row_pay3 ha hb hr

theorem row_pay9 : Row (k0_pay9 (F := Ideal) sb sa sb sa) ((twice A B)^[2] fun _ => True) := by
  intro j
  unfold k0_pay9
  pointwise
  refine two_steps ha hb (fun x y => sb (ix2 x y) * _) (twice A B fun _ => True) (fun i l => ?_) j
  rw [hb, two_steps ha hb (fun x y => sb (ix2 x y)) (fun _ => True) (fun i l => by rw [hb, mark_only, and_true]) l, mark_and]

/-- The set after `n` double steps from all the lanes. -/
abbrev left (A B : Fin 848 → Fin 896 → Prop) (n : ℕ) : Fin 896 → Prop := (twice A B)^[n] fun _ => True

end Steps

end Cert.Proof.KI

end
-- ==== Proof.KI.Stop.lean ====
/-
  Where the suppression's `while` stops. Its sets of lanes fall, and its sums are the sets' sizes: when the sum has stopped
  falling, the set is one that the two steps leave as it is.
-/
module

public import proofs.«01_k».proof.Proof.KI.Suppress

@[expose] public section

set_option maxRecDepth 16384

noncomputable section

namespace Cert.Proof.KI

open Cert.KernelIdeal Cert.KernelIdeal.Gen
open Idealize.ShloMosaic
open scoped Classical
open Greedy (twice)

/-- How many items a set holds. -/
def size {n : ℕ} (K : Fin n → Prop) : ℕ := (Finset.univ.filter K).card

theorem sum_marks {n : ℕ} (f : Fin n → EReal) (K : Fin n → Prop) (h : ∀ x, f x = if K x then (1 : EReal) else 0) :
    (∑ x : Fin n, f x) = ((size K : ℕ) : EReal) :=
  (Finset.sum_congr rfl fun x _ => h x).trans (Finset.sum_boole _ _)

theorem same_of_size {n : ℕ} {K L : Fin n → Prop} (hs : ∀ j, L j → K j) (hc : ¬size L < size K) : L = K := by
  have h : Finset.univ.filter L = Finset.univ.filter K :=
    Finset.eq_of_subset_of_card_le (fun x hx => by
      rw [Finset.mem_filter] at hx ⊢; exact ⟨hx.1, hs x hx.2⟩) (Nat.not_lt.mp hc)
  funext j
  refine propext ⟨hs j, fun hk => ?_⟩
  have hj : j ∈ Finset.univ.filter L := by rw [h]; exact Finset.mem_filter.mpr ⟨Finset.mem_univ j, hk⟩
  exact (Finset.mem_filter.mp hj).2

theorem total_row {r : FVec Ideal S1x896 .bf16} {K : Fin 896 → Prop} (hr : Row r K) : total r = ((size K : ℕ) : EReal) := by
  unfold total
  pointwise
  rw [Fin.sum_univ_one]
  exact sum_marks _ K hr

/-- A state of the `while`: a set some steps down from all the lanes, its size, and the flag down only if the set is fixed. -/
def State (A B : Fin 848 → Fin 896 → Prop) (x : Carry Ideal) : Prop :=
  ∃ n, Row x.1 (left A B n) ∧ x.2.1 = ((size (left A B n) : ℕ) : EReal) ∧ (x.2.2 = 1#1 ∨ twice A B (left A B n) = left A B n)

section Steps

variable {sa sb : FVec Ideal S848x896 .bf16} {A B : Fin 848 → Fin 896 → Prop} (ha : Table sa A) (hb : Table sb B)
include ha hb

theorem state_entry : State A B (entry sa sb) := by
  have h : Row (k0_pay106 (k0_pay9 sb sa sb sa) sb sa) (left A B 3) := row_pay106 ha hb (row_pay9 ha hb)
  unfold entry State
  dsimp only
  refine ⟨3, ?_, ?_, ?_⟩
  · exact h
  · exact (pay107_total _ _ _).trans (total_row h)
  · exact .inl rfl

theorem state_turn (x : Carry Ideal) (hx : State A B x) : State A B (turn sa sb x) := by
  obtain ⟨n, hr, hs, hf⟩ := hx
  by_cases h : x.2.2 = 1#1
  · have hr' : Row (k0_pay3 kZero kOne x.1 sb sa) (left A B (n + 1)) := by
      unfold left
      rw [Function.iterate_succ_apply']
      exact row_pay3 ha hb hr
    have ht : k0_pay4 kZero kOne x.1 sb sa = ((size (left A B (n + 1)) : ℕ) : EReal) := (pay4_total _ _ _).trans (total_row hr')
    unfold turn
    rw [if_pos h]
    unfold State
    dsimp only
    refine ⟨n + 1, ?_, ?_, ?_⟩
    · exact hr'
    · exact ht
    by_cases hc : size (left A B (n + 1)) < size (left A B n)
    · refine .inl ?_
      rw [ht, hs, gt_nat, decide_eq_true hc]
      rfl
    · have e : left A B (n + 1) = left A B n := same_of_size (fun j hj => Greedy.twice_iter_le A B n j hj) hc
      refine .inr ?_
      rw [e, ← Function.iterate_succ_apply' (twice A B) n]
      exact e
  · rw [turn_stop sa sb x h]
    exact ⟨n, hr, hs, .inr (hf.resolve_left h)⟩

/-- The row the `while` stops with marks a set which the two steps leave as it is. -/
theorem stopped_fixed : ∃ K, Row (stopped sa sb).1 K ∧ twice A B K = K := by
  have h : ∀ k, State A B ((turn sa sb)^[k] (entry sa sb)) := by
    intro k
    induction k with
    | zero => exact state_entry ha hb
    | succ k ih => rw [Function.iterate_succ_apply']; exact state_turn ha hb _ ih
  have hstop := Halts.halts sa sb
  unfold stopped at hstop ⊢
  obtain ⟨n, hr, _, hf⟩ := h 900
  exact ⟨_, hr, hf.resolve_left hstop⟩

end Steps

end Cert.Proof.KI

end
-- ==== Proof.KI.Mark.lean ====
/-
  One class of the kernel, element by element: its scores picked off the score table, and the overlap table split by the order
  of the scores.
-/
module

public import proofs.«01_k».proof.Proof.KI.Tables
public import proofs.«01_k».proof.Proof.KI.Stop

@[expose] public section

set_option maxRecDepth 16384

noncomputable section

namespace Cert.Proof.KI

open Cert.KernelIdeal Cert.KernelIdeal.Gen
open Idealize.ShloMosaic
open scoped Classical

/-- One entry of a column picked by its number. -/
theorem pick (k : Fin k0_t1_loop.trips) (hk : k.val < 24) (f : Fin 24 → EReal) :
    (∑ x : Fin 24, Scalar.select (IntOp.cmpi .eq (BitVec.ofNat 32 x.val) (Scf.iv 0#32 1#32 k)) (f x) 0) = f ⟨k.val, hk⟩ := by
  have h20 : k.val < 20 := trips_eq ▸ k.isLt
  rw [Finset.sum_eq_single (⟨k.val, hk⟩ : Fin 24)]
  · exact if_pos (by rw [iv_eq]; exact (mark_eq _ _ hk h20).mpr rfl)
  · intro x _ hx
    refine if_neg fun e => hx (Fin.ext ?_)
    rw [iv_eq] at e
    exact (mark_eq _ _ x.isLt h20).mp e
  · exact fun h => absurd (Finset.mem_univ _) h

section Marks

variable (T : FVec Ideal S24x896 .f32) (C : FVec Ideal S848x24 .f32) (O : FVec Ideal S848x896 .bf16) (k : Fin k0_t1_loop.trips)

theorem line_at (hk : k.val < 24) (j : Fin 896) : k0_pay5 (F := Ideal) idClassR 0#32 1#32 k T (ix2 0 j) = T (ix2 ⟨k.val, hk⟩ j) := by
  unfold k0_pay5
  pointwise
  exact pick k hk fun x => T (ix2 x j)

/-- Row `i` outranks lane `j`. -/
def Rank (T : FVec Ideal S24x896 .f32) (C : FVec Ideal S848x24 .f32) (k : Fin 24) (i : Fin 848) (j : Fin 896) : Prop :=
  T (ix2 k j) < C (ix2 i k) ∨ (C (ix2 i k) = T (ix2 k j) ∧ i.val < j.val)

theorem lt_word (i j : ℕ) (hi : i < 848) (hj : j < 896) : IntOp.cmpi .slt (BitVec.ofNat 32 i) (BitVec.ofNat 32 j) = 1#1 ↔ i < j := by
  rw [IntOp.cmpi_slt, BitVec.toInt_eq_toNat_of_lt (by rw [BitVec.toNat_ofNat]; omega), BitVec.toInt_eq_toNat_of_lt (by rw [BitVec.toNat_ofNat]; omega),
    BitVec.toNat_ofNat, BitVec.toNat_ofNat]
  omega

theorem rank_bit {p q r P : Prop} [Decidable p] [Decidable q] [Decidable P] (b : BitVec 1) (hb : b = 1#1 ↔ r) (hP : P ↔ p ∨ (q ∧ r)) (v : EReal) :
    Scalar.select (IntOp.ori (BitVec.ofBool (decide p)) (IntOp.andi (BitVec.ofBool (decide q)) b)) v 0 = if P then v else 0 := by
  have e : b = BitVec.ofBool (decide r) := by
    by_cases hr : r
    · rw [hb.mpr hr, decide_eq_true hr]; rfl
    · rcases bit_cases b with e | e
      · rw [e, decide_eq_false hr]; rfl
      · exact absurd (hb.mp e) hr
  rw [e]
  by_cases hp : p <;> by_cases hq : q <;> by_cases hr : r <;> simp [hP, hp, hq, hr, Scalar.select, IntOp.ori, IntOp.andi]

theorem saOf_at (hk : k.val < 24) (i : Fin 848) (j : Fin 896) :
    saOf (F := Ideal) idRow idLane idClassR idClassC O T C k (ix2 i j) = if Rank T C ⟨k.val, hk⟩ i j then O (ix2 i j) else 0 := by
  unfold saOf k0_pay7 k0_pay6 k0_pay5
  pointwise
  rw [pick k hk fun x => T (ix2 x j), pick k hk fun x => C (ix2 i x)]
  exact rank_bit (P := Rank T C ⟨k.val, hk⟩ i j) _ (lt_word i.val j.val i.isLt j.isLt) Iff.rfl _

theorem sbOf_at (hk : k.val < 24) (i : Fin 848) (j : Fin 896) :
    sbOf (F := Ideal) idRow idLane idClassR idClassC O T C k (ix2 i j) = O (ix2 i j) - if Rank T C ⟨k.val, hk⟩ i j then O (ix2 i j) else 0 := by
  rw [← saOf_at T C O k hk i j]
  unfold sbOf saOf k0_pay8 k0_pay7
  pointwise

variable {O} {R : Fin 848 → Fin 896 → Prop} (hO : Table O R)
include hO

theorem table_a (hk : k.val < 24) : Table (saOf (F := Ideal) idRow idLane idClassR idClassC O T C k) fun i j => R i j ∧ Rank T C ⟨k.val, hk⟩ i j := by
  intro i j
  rw [saOf_at T C O k hk, hO]
  by_cases h : R i j <;> by_cases h' : Rank T C ⟨k.val, hk⟩ i j <;> simp [h, h']

theorem table_b (hk : k.val < 24) : Table (sbOf (F := Ideal) idRow idLane idClassR idClassC O T C k) fun i j => R i j ∧ ¬Rank T C ⟨k.val, hk⟩ i j := by
  intro i j
  rw [sbOf_at T C O k hk, hO]
  by_cases h : R i j <;> by_cases h' : Rank T C ⟨k.val, hk⟩ i j <;> simp [h, h']
  exact EReal.sub_self (by decide) (by decide)

end Marks

theorem hit_row (k : Fin k0_t1_loop.trips) (hk : k.val < 24) (s : FVec Ideal S1x896 .f32) (r : FVec Ideal S1x896 .bf16) (old : FVec Ideal S24x896 .f32) (j : Fin 896) :
    k0_pay108 (F := Ideal) (Scf.iv 0#32 1#32 k) s r old (ix2 ⟨k.val, hk⟩ j) = r (ix2 0 j) * s (ix2 0 j) := by
  unfold k0_pay108
  rw [iv_eq]
  pointwise

end Cert.Proof.KI

end
-- ==== Proof.KI.Class.lean ====
/-
  One class on any tables: the suppression's set and the row it leaves.
-/
module

public import proofs.«01_k».proof.Proof.KI.Mark
public import proofs.«01_k».proof.Proof.KI.Stop

@[expose] public section

set_option maxRecDepth 16384

noncomputable section

namespace Cert.Proof.KI

open Cert.KernelIdeal Cert.KernelIdeal.Gen
open Idealize.ShloMosaic
open scoped Classical

/-- Among the lanes that hold boxes, a set which the two steps leave as it is, is the greedy choice. -/
theorem lanes_survive {before hit : Fin 845 → Fin 845 → Prop} (wf : WellFounded before) (total : ∀ i j, i ≠ j → before i j ∨ before j i)
    (asymm : ∀ i j, before i j → ¬before j i) (symm : ∀ i j, hit i j → hit j i) {rank : Fin 848 → Fin 896 → Prop}
    (hrank : ∀ (i : Fin 848) (j : Fin 896) (hi : i.val < 845) (hj : j.val < 845), rank i j ↔ before ⟨i.val, hi⟩ ⟨j.val, hj⟩) {K : Fin 896 → Prop}
    (h : Greedy.twice (fun (i : Fin 848) (j : Fin 896) => (∃ (hi : i.val < 845) (hj : j.val < 845), hit ⟨i.val, hi⟩ ⟨j.val, hj⟩ ∧ i.val ≠ j.val) ∧ rank i j)
      (fun i j => (∃ (hi : i.val < 845) (hj : j.val < 845), hit ⟨i.val, hi⟩ ⟨j.val, hj⟩ ∧ i.val ≠ j.val) ∧ ¬rank i j) K = K) :
    Greedy.Survives before hit fun n => K ⟨n.val, by omega⟩ := by
  refine Greedy.survives_of_twice wf fun j => ?_
  refine (iff_of_eq (congrFun h ⟨j.val, by omega⟩)).symm.trans ?_
  unfold Greedy.twice
  constructor
  · intro hn i hb hh hall
    have hne : i ≠ j := fun e => by subst e; exact asymm _ _ hb hb
    refine hn ⟨⟨i.val, by omega⟩, ⟨⟨i.isLt, j.isLt, hh, fun e => hne (Fin.ext e)⟩, (hrank _ _ i.isLt j.isLt).mpr hb⟩, ?_⟩
    rintro ⟨l, ⟨⟨hi, hl, hh', hne'⟩, hr⟩, hK⟩
    refine hall ⟨l.val, hl⟩ ?_ (symm _ _ hh') hK
    rcases total i ⟨l.val, hl⟩ (fun e => hne' (congrArg Fin.val e)) with hb' | hb'
    · exact absurd ((hrank _ _ i.isLt hl).mpr hb') hr
    · exact hb'
  · rintro hall ⟨i, ⟨⟨hi, _, hh, hne⟩, hr⟩, hn⟩
    refine hall ⟨i.val, hi⟩ ((hrank _ _ hi j.isLt).mp hr) hh fun l hb hl hK => hn ⟨⟨l.val, by omega⟩, ⟨⟨hi, l.isLt, symm _ _ hl, ?_⟩, ?_⟩, hK⟩
    · intro e
      have : (⟨i.val, hi⟩ : Fin 845) = l := Fin.ext e
      subst this
      exact asymm _ _ hb hb
    · intro hr'
      exact asymm _ _ hb ((hrank _ _ hi l.isLt).mp hr')

/-- A row of marks by a row of scores. -/
theorem row_of {r : FVec Ideal S1x896 .bf16} {K : Fin 896 → Prop} (hr : Row r K)
    {done : FVec Ideal S24x896 .f32 → Fin 896 → EReal} {t : Fin 896 → EReal} (hd : ∀ old j, done old j = r (ix2 0 j) * t j) (old : FVec Ideal S24x896 .f32) (j : Fin 896) :
    done old j = (if K j then 1 else 0) * t j := by
  rw [hd, hr]

attribute [local irreducible] stopped in
/-- A class on any tables: the suppression's set, and the row it leaves. -/
theorem class_at (T : FVec Ideal S24x896 .f32) (C : FVec Ideal S848x24 .f32) {O : FVec Ideal S848x896 .bf16} (k : Fin k0_t1_loop.trips)
    {R : Fin 848 → Fin 896 → Prop} (hO : Table O R) (hk : k.val < 24) :
    ∃ K, Greedy.twice (fun i j => R i j ∧ Rank T C ⟨k.val, hk⟩ i j) (fun i j => R i j ∧ ¬Rank T C ⟨k.val, hk⟩ i j) K = K ∧
      ∀ (old : FVec Ideal S24x896 .f32) (j : Fin 896), classDone (F := Ideal) idRow idLane idClassR idClassC O T C k old (ix2 ⟨k.val, hk⟩ j)
        = (if K j then 1 else 0) * T (ix2 ⟨k.val, hk⟩ j) := by
  have ha := table_a T C k hO hk
  have hb := table_b T C k hO hk
  have hd : ∀ old j, classDone (F := Ideal) idRow idLane idClassR idClassC O T C k old (ix2 ⟨k.val, hk⟩ j)
      = (stopped (saOf (F := Ideal) idRow idLane idClassR idClassC O T C k) (sbOf (F := Ideal) idRow idLane idClassR idClassC O T C k)).1 (ix2 0 j) * T (ix2 ⟨k.val, hk⟩ j) := by
    intro old j
    unfold classDone
    rw [hit_row k hk, line_at T k hk]
  obtain ⟨K, hr, hf⟩ := stopped_fixed ha hb
  exact ⟨K, hf, row_of (done := fun old j => classDone (F := Ideal) idRow idLane idClassR idClassC O T C k old (ix2 ⟨k.val, hk⟩ j)) (t := fun j => T (ix2 ⟨k.val, hk⟩ j)) hr hd⟩

end Cert.Proof.KI

end
-- ==== Proof.KI.Row.lean ====
/-
  Each class's row of the kernel's first result: the class's scores where the greedy choice keeps the box.
-/
module

public import proofs.«01_k».proof.Proof.KI.Class
public import proofs.«01_k».proof.Proof.KI.Stop

@[expose] public section

set_option maxRecDepth 16384

noncomputable section

namespace Cert.Proof.KI

open Cert.KernelIdeal Cert.KernelIdeal.Gen
open Idealize.ShloMosaic
open scoped Classical

section Image

variable (w0 w1 : EReal) (x : FVec Ideal S1x125x169 .f32)

theorem scoreCols_at (k : Fin 24) (i : Fin 848) : scoreCols (F := Ideal) x (ix2 i k) = scores (F := Ideal) x (ix2 k ⟨i.val, by omega⟩) := by
  unfold scoreCols
  rw [cut9_at]
  generalize scores (F := Ideal) x = v
  unfold k0_pay101
  pointwise

/-- On two boxes the rank is the specification's order. -/
theorem rank_iff (k : Fin 20) (i : Fin 848) (j : Fin 896) (hi : i.val < 845) (hj : j.val < 845) :
    Rank (scores (F := Ideal) x) (scoreCols (F := Ideal) x) ⟨k.val, by omega⟩ i j ↔ Spec.before (Spec.score (img x) k) ⟨i.val, hi⟩ ⟨j.val, hj⟩ := by
  unfold Rank Spec.before
  rw [scoreCols_at, ← scores_at x k ⟨i.val, hi⟩, ← scores_at x k ⟨j.val, hj⟩]
  rfl

/-- The set the suppression keeps is the greedy choice. -/
theorem chosen_of_fixed (k : Fin 20) {K : Fin 896 → Prop}
    (h : Greedy.twice (fun (i : Fin 848) (j : Fin 896) => Over w0 w1 (img x) i.val j.val ∧ Rank (scores (F := Ideal) x) (scoreCols (F := Ideal) x) ⟨k.val, by omega⟩ i j)
      (fun i j => Over w0 w1 (img x) i.val j.val ∧ ¬Rank (scores (F := Ideal) x) (scoreCols (F := Ideal) x) ⟨k.val, by omega⟩ i j) K = K) :
    Spec.Chosen (Spec.box w0 w1 (img x)) (Spec.score (img x) k) fun n => K ⟨n.val, by omega⟩ :=
  lanes_survive (Spec.before_wf _) (fun _ _ h => Spec.before_total _ h) (fun _ _ h => Spec.before_asymm _ h) (fun _ _ h => (Spec.hit_symm _ _ _).mp h)
    (fun i j hi hj => rank_iff x k i j hi hj) h

/-- A class's row: the scores of the greedy choice. -/
theorem classRow_at (k : Fin 20) : ∃ G, Spec.Chosen (Spec.box w0 w1 (img x)) (Spec.score (img x) k) G ∧
    ∀ n : Fin 845, classRow (F := Ideal) w0 w1 x ⟨k.val, by rw [trips_eq]; exact k.isLt⟩ (ix2 (n0 := 24) (n1 := 896) ⟨k.val, by omega⟩ ⟨n.val, by omega⟩)
      = if G n then Spec.score (img x) k n else 0 := by
  have hO : Table (overlap (F := Ideal) w0 w1 x) fun i j => Over w0 w1 (img x) i.val j.val := overlap_at w0 w1 x
  have hs : ∀ n : Fin 845, scores (F := Ideal) x (ix2 (n0 := 24) (n1 := 896) ⟨k.val, by omega⟩ ⟨n.val, by omega⟩) = Spec.score (img x) k n := scores_at x k
  have hc := fun K => chosen_of_fixed w0 w1 x k (K := K)
  unfold classRow
  generalize overlap (F := Ideal) w0 w1 x = O at hO
  generalize scoreCols (F := Ideal) x = C at hc
  generalize scores (F := Ideal) x = T at hs hc
  obtain ⟨K, hf, hK⟩ := class_at T C ⟨k.val, by rw [trips_eq]; exact k.isLt⟩ hO (show k.val < 24 by omega)
  refine ⟨fun n => K ⟨n.val, by omega⟩, hc K hf, fun n => ?_⟩
  refine (hK _ _).trans ?_
  show _ * T (ix2 (n0 := 24) (n1 := 896) ⟨k.val, by omega⟩ ⟨n.val, by omega⟩) = _
  rw [hs]
  by_cases h : K ⟨n.val, by omega⟩
  · rw [if_pos h, if_pos h, one_mul]
  · rw [if_neg h, if_neg h, zero_mul]

theorem probBlk_at (k : Fin 20) : ∃ G, Spec.Chosen (Spec.box w0 w1 (img x)) (Spec.score (img x) k) G ∧
    ∀ n : Fin 845, probBlk (F := Ideal) w0 w1 x (ix3 (n0 := 1) (n1 := 20) (n2 := 896) 0 k ⟨n.val, by omega⟩) = if G n then Spec.score (img x) k n else 0 := by
  obtain ⟨G, hG, h⟩ := classRow_at w0 w1 x k
  refine ⟨G, hG, fun n => (Eq.trans ?_ (h n))⟩
  have e : ∀ (v : FVec Ideal S20x896 .f32) (j : Fin 896), k0_pay1 (F := Ideal) v (ix3 0 k j) = v (ix2 k j) := by
    intro v j
    unfold k0_pay1
    pointwise
  unfold probBlk
  rw [e]
  rfl

theorem boxBlk_at (n : Fin 845) (q : Fin 4) : boxBlk (F := Ideal) w0 w1 x (ix3 (n0 := 1) (n1 := 8) (n2 := 896) 0 ⟨q.val, by omega⟩ ⟨n.val, by omega⟩) = Spec.box w0 w1 (img x) n q := by
  have e : ∀ (v : FVec Ideal S8x896 .f32) (i : Fin 8) (j : Fin 896), k0_pay2 (F := Ideal) v (ix3 0 i j) = v (ix2 i j) := by
    intro v i j
    unfold k0_pay2
    pointwise
  unfold boxBlk
  rw [e]
  exact boxes_corner w0 w1 x n q

end Image

end Cert.Proof.KI

end
-- ==== Proof.KI.Final.lean ====
/-
  The kernel's two results, element by element: each grid point writes one image's blocks, and the points' blocks are the
  whole arrays; the host lines cut the spare lanes away and turn the arrays.
-/
module

public import proofs.«01_k».proof.Proof.KI.Row
public import proofs.«01_k».proof.Proof.KI.Whole
public import Idealize.ShloMosaic.Lib.Pipeline.Value
public import Idealize.ShloMosaic.Lib.Pipeline.ValueKit.Geometry
public import Idealize.ShloMosaic.Lib.StableHlo.RunRead

@[expose] public section

set_option maxRecDepth 16384

noncomputable section

namespace Cert.Proof.KI

open Cert.KernelIdeal Cert.KernelIdeal.Gen
open Idealize.ShloMosaic
open scoped Classical
open Idealize.ShloMosaic.TcCoe
open Idealize.ShloMosaic.Pipeline (Dat Cfg Window BodyObligation cellOf)

/-- The grid's point of an image. -/
def pt (b : Fin 4) : Fin (cfg0 (F := Ideal)).N := ⟨b.val, b.isLt⟩

theorem pt_coord (b : Fin 4) : grid0.coords (pt b) 0 = b := by
  refine Fin.ext ?_
  revert b
  decide +kernel

theorem index0 (b : Fin 4) : win0_0.index (pt b) = ![b.val, 0, 0] := by revert b; decide +kernel
theorem index1 (b : Fin 4) : win0_1.index (pt b) = ![0, 0] := by revert b; decide +kernel
theorem index2 (b : Fin 4) : win0_2.index (pt b) = ![b.val, 0, 0] := by revert b; decide +kernel
theorem index3 (b : Fin 4) : win0_3.index (pt b) = ![b.val, 0, 0] := by revert b; decide +kernel

/-- Where a block's element lies in its array. -/
theorem emb0 (b : Fin 4) (i : Fin 125) (j : Fin 169) : (((cfg0 (F := Ideal)).win 0).blk (pt b)).view.emb (ix3 (n0 := 1) (n1 := 125) (n2 := 169) 0 i j) = ix3 (n0 := 4) (n1 := 125) (n2 := 169) b i j := by
  funext d
  refine Fin.ext ?_
  show ((win0_0.rect (pt b)).emb (ix3 (n0 := 1) (n1 := 125) (n2 := 169) 0 i j) d : ℕ) = _
  rw [Window.rect_emb_val (w := win0_0) (hk := rfl), index0]
  refine Fin.cases ?_ (Fin.cases ?_ (Fin.cases ?_ fun d => d.elim0)) d
  · show b.val * 1 + 0 = b.val; omega
  · show 0 * 125 + i.val = i.val; omega
  · show 0 * 169 + j.val = j.val; omega
theorem emb1 (b : Fin 4) (i : Fin 4) (j : Fin 2) : (((cfg0 (F := Ideal)).win 1).blk (pt b)).view.emb (ix2 (n0 := 4) (n1 := 2) i j) = ix2 (n0 := 4) (n1 := 2) i j := by
  funext d
  refine Fin.ext ?_
  show ((win0_1.rect (pt b)).emb (ix2 (n0 := 4) (n1 := 2) i j) d : ℕ) = _
  rw [Window.rect_emb_val (w := win0_1) (hk := rfl), index1]
  refine Fin.cases ?_ (Fin.cases ?_ fun d => d.elim0) d
  · show 0 * 4 + i.val = i.val; omega
  · show 0 * 2 + j.val = j.val; omega
theorem emb2 (b : Fin 4) (i : Fin 20) (j : Fin 896) : (((cfg0 (F := Ideal)).win 2).blk (pt b)).view.emb (ix3 (n0 := 1) (n1 := 20) (n2 := 896) 0 i j) = ix3 (n0 := 4) (n1 := 20) (n2 := 896) b i j := by
  funext d
  refine Fin.ext ?_
  show ((win0_2.rect (pt b)).emb (ix3 (n0 := 1) (n1 := 20) (n2 := 896) 0 i j) d : ℕ) = _
  rw [Window.rect_emb_val (w := win0_2) (hk := rfl), index2]
  refine Fin.cases ?_ (Fin.cases ?_ (Fin.cases ?_ fun d => d.elim0)) d
  · show b.val * 1 + 0 = b.val; omega
  · show 0 * 20 + i.val = i.val; omega
  · show 0 * 896 + j.val = j.val; omega
theorem emb3 (b : Fin 4) (i : Fin 8) (j : Fin 896) : (((cfg0 (F := Ideal)).win 3).blk (pt b)).view.emb (ix3 (n0 := 1) (n1 := 8) (n2 := 896) 0 i j) = ix3 (n0 := 4) (n1 := 8) (n2 := 896) b i j := by
  funext d
  refine Fin.ext ?_
  show ((win0_3.rect (pt b)).emb (ix3 (n0 := 1) (n1 := 8) (n2 := 896) 0 i j) d : ℕ) = _
  rw [Window.rect_emb_val (w := win0_3) (hk := rfl), index3]
  refine Fin.cases ?_ (Fin.cases ?_ (Fin.cases ?_ fun d => d.elim0)) d
  · show b.val * 1 + 0 = b.val; omega
  · show 0 * 8 + i.val = i.val; omega
  · show 0 * 896 + j.val = j.val; omega

variable (m : (ℓ : Loc nD τ sig) → Buf (Elt Ideal) ℓ) (c : Dev nD)

/-- The arguments. -/
abbrev feat : FVec Ideal S4x125x13x13 .f32 := m ((c : Thread nD τ).loc main_arg0)
abbrev info : FVec Ideal S4x2 .f32 := m ((c : Thread nD τ).loc main_arg1)

/-- One image's channels. -/
def imgOf (b : Fin 4) : Fin 125 → Fin 169 → EReal := fun ch p => feat m c (ix4 (n0 := 4) (n1 := 125) (n2 := 13) (n3 := 13) b ch ⟨p.val / 13, by omega⟩ ⟨p.val % 13, by omega⟩)

theorem block_img (b : Fin 4) : img (iblk m c 0 (pt b)) = imgOf m c b := by
  funext ch p
  show V₀ m c (Proc.devRef .tc main_v0) ((((cfg0 (F := Ideal)).win 0).blk (pt b)).view.emb (ix3 (n0 := 1) (n1 := 125) (n2 := 169) 0 ch p)) = _
  rw [emb0]
  unfold imgOf feat V₀
  after_reads_simp
  pointwise

theorem block_info (b i : Fin 4) (j : Fin 2) : (iblk m c 1 (pt b) : FVec Ideal S4x2 .f32) (ix2 i j) = info m c (ix2 i j) := by
  show V₀ m c (Proc.devRef .tc main_arg1) ((((cfg0 (F := Ideal)).win 1).blk (pt b)).view.emb (ix2 (n0 := 4) (n1 := 2) i j)) = _
  rw [emb1]
  exact congrFun (StableHlo.after_of_forall_not_mem (b := Proc.devRef .tc main_arg1) hostOps0 _ (kept0 main_arg1 (by decide))) _

theorem inj2 : ∀ t t' : Fin grid0.N, win0_2.flush t = true → win0_2.flush t' = true → win0_2.index t = win0_2.index t' → t = t' := by
  decide +kernel
theorem inj3 : ∀ t t' : Fin grid0.N, win0_3.flush t = true → win0_3.flush t' = true → win0_3.index t = win0_3.index t' → t = t' := by
  decide +kernel

theorem finalP_at (b : Fin 4) (i : Fin 20) (j : Fin 896) : finalP m c (ix3 b i j) = outProb m c (pt b) (ix3 0 i j) := by
  have h := (dats m 0 c).arrAt_emb_eq_flushed 2 (Window.hdisj_of_index_inj win0_2 inj2) (pt b) (flush0_2 (pt b)) (ix3 (n0 := 1) (n1 := 20) (n2 := 896) 0 i j)
  rw [emb2] at h
  refine h.trans ?_
  show ((cfg0 (F := Ideal)).win 2).cut (grid0.coords (pt b)) ((dats m 0 c).after 2 (pt b)) _ = _
  rw [after_2]
  rfl
theorem finalB_at (b : Fin 4) (i : Fin 8) (j : Fin 896) : finalB m c (ix3 b i j) = outBox m c (pt b) (ix3 0 i j) := by
  have h := (dats m 0 c).arrAt_emb_eq_flushed 3 (Window.hdisj_of_index_inj win0_3 inj3) (pt b) (flush0_3 (pt b)) (ix3 (n0 := 1) (n1 := 8) (n2 := 896) 0 i j)
  rw [emb3] at h
  refine h.trans ?_
  show ((cfg0 (F := Ideal)).win 3).cut (grid0.coords (pt b)) ((dats m 0 c).after 3 (pt b)) _ = _
  rw [after_3]
  rfl

theorem high_eq (b : Fin 4) : high (grid0.coords (pt b)) (iblk m c 1 (pt b)) = info m c (ix2 b 0) := by
  unfold high
  rw [pt_coord]
  exact block_info m c b b 0
theorem wide_eq (b : Fin 4) : wide (grid0.coords (pt b)) (iblk m c 1 (pt b)) = info m c (ix2 b 1) := by
  unfold wide
  rw [pt_coord]
  exact block_info m c b b 1

/-- The boxes' result. -/
theorem finalBox_at (b : Fin 4) (n : Fin 845) (q : Fin 4) :
    (finalBox m c : FVec Ideal S4x845x4 .f32) (ix3 b n q) = Spec.box (info m c (ix2 b 0)) (info m c (ix2 b 1)) (imgOf m c b) n q := by
  have e : ∀ v : FVec Ideal S4x8x896 .f32,
      transpose S4x845x4 [0, 2, 1] (extractStridedSlice S4x4x845 ![0, 0, 0] v slices_S4x8x896_S4x4x845_0_0_0) transposes_S4x4x845_S4x845x4_0_2_1 (ix3 b n q)
        = v (ix3 b ⟨q.val, by omega⟩ ⟨n.val, by omega⟩) := by
    intro v
    pointwise
  unfold finalBox
  rw [e, finalB_at]
  unfold outBox
  rw [boxBlk_at, high_eq, wide_eq, block_img]

/-- The scores' result. -/
theorem finalProb_at (b : Fin 4) (k : Fin 20) : ∃ G, Spec.Chosen (Spec.box (info m c (ix2 b 0)) (info m c (ix2 b 1)) (imgOf m c b)) (Spec.score (imgOf m c b) k) G ∧
    ∀ n : Fin 845, (finalProb m c : FVec Ideal S4x845x20 .f32) (ix3 b n k) = if G n then Spec.score (imgOf m c b) k n else 0 := by
  have e : ∀ (v : FVec Ideal S4x20x896 .f32) (n : Fin 845),
      transpose S4x845x20 [0, 2, 1] (extractStridedSlice S4x20x845 ![0, 0, 0] v slices_S4x20x896_S4x20x845_0_0_0) transposes_S4x20x845_S4x845x20_0_2_1 (ix3 b n k)
        = v (ix3 b k ⟨n.val, by omega⟩) := by
    intro v n
    pointwise
  obtain ⟨G, hG, h⟩ := probBlk_at (high (grid0.coords (pt b)) (iblk m c 1 (pt b))) (wide (grid0.coords (pt b)) (iblk m c 1 (pt b))) (iblk m c 0 (pt b)) k
  rw [high_eq, wide_eq, block_img] at hG
  refine ⟨G, hG, fun n => ?_⟩
  unfold finalProb
  rw [e, finalP_at]
  unfold outProb
  refine (h n).trans ?_
  rw [block_img]

end Cert.Proof.KI

end
-- ==== Proof.RI.Pick.lean ====
/-
  The reference's reads and writes by index, element by element: a box or a score picked by its image, class and number, and
  the scores put back at their numbers.
-/
module

public import proofs.«01_k».proof.Proof.RefRun
public import Idealize.ShloMosaic.Lib.Pointwise
public import Idealize.ShloMosaic.Lib.WordCmp

@[expose] public section

set_option maxRecDepth 16384

noncomputable section

namespace Cert.Proof.RI

open Cert.ReferenceIdeal Cert.ReferenceIdeal.Gen
open Idealize.ShloMosaic

theorem word_nat (n : ℕ) (h : n < 1000) : (BitVec.ofNat 32 n).toInt = n := by
  rw [BitVec.toInt_eq_toNat_of_lt (by rw [BitVec.toNat_ofNat]; omega), BitVec.toNat_ofNat]
  congr 1
  omega

section Gather

variable {α : Type}

/-- A box picked by its image and number. -/
theorem gather_box (x : S4x845x4.Idx → α) (idx : IVec S4x20x845x2 32) (b : Fin 4) (k : Fin 20) (p : Fin 845) (q : Fin 4) (B : Fin 4) (P : Fin 845)
    (h0 : idx (ix4 b k p 0) = BitVec.ofNat 32 B.val) (h1 : idx (ix4 b k p 1) = BitVec.ofNat 32 P.val) :
    Host.gather gather_S4x845x4_S4x20x845x2_S4x20x845x4_3_01_n_n_01_3_114 x idx (ix4 b k p q) = x (ix3 B P q) := by
  unfold Host.gather
  congr 1
  funext a
  refine Fin.ext ?_
  generalize hD : gather_S4x845x4_S4x20x845x2_S4x20x845x4_3_01_n_n_01_3_114 = D
  have hs : D.startIndexMap = [0, 1] := by rw [← hD]; rfl
  have hc : D.collapsedSliceDims = [0, 1] := by rw [← hD]; rfl
  have hb : D.operandBatchingDims = [] := by rw [← hD]; rfl
  show D.start (ix4 b k p q) idx a + D.batchCoord (ix4 b k p q) a + D.offCoord (ix4 b k p q) a = _
  rw [GatherDims.batchCoord_eq_zero _ _ _ (by rw [hb]; exact List.not_mem_nil)]
  revert a
  refine Fin.cases ?_ (Fin.cases ?_ (Fin.cases ?_ fun a => a.elim0))
  · rw [GatherDims.offCoord_eq_zero _ _ _ (fun h => ((GatherDims.mem_sKept _ _).mp h).1 (by rw [hc]; decide))]
    have hi : (0 : Fin 3) ∈ D.startIndexMap := by rw [hs]; decide
    unfold GatherDims.start
    rw [dif_pos hi]
    have hsi : D.siIdx (ix4 b k p q) ⟨D.startIndexMap.idxOf 0, List.idxOf_lt_length_iff.2 hi⟩ = ix4 b k p 0 := by
      subst hD
      funext d
      refine Fin.ext ?_
      match d with
      | ⟨0, _⟩ => rfl
      | ⟨1, _⟩ => rfl
      | ⟨2, _⟩ => rfl
      | ⟨3, _⟩ => rfl
    rw [hsi, h0, word_nat _ (by omega)]
    subst hD
    show min B.val (4 - 1) + 0 + 0 = B.val
    omega
  · rw [GatherDims.offCoord_eq_zero _ _ _ (fun h => ((GatherDims.mem_sKept _ _).mp h).1 (by rw [hc]; decide))]
    have hi : (1 : Fin 3) ∈ D.startIndexMap := by rw [hs]; decide
    unfold GatherDims.start
    erw [dif_pos hi]
    have hsi : D.siIdx (ix4 b k p q) ⟨D.startIndexMap.idxOf 1, List.idxOf_lt_length_iff.2 hi⟩ = ix4 b k p 1 := by
      subst hD
      funext d
      refine Fin.ext ?_
      match d with
      | ⟨0, _⟩ => rfl
      | ⟨1, _⟩ => rfl
      | ⟨2, _⟩ => rfl
      | ⟨3, _⟩ => rfl
    erw [hsi]
    rw [h1, word_nat _ (by omega)]
    subst hD
    show min P.val (845 - 1) + 0 + 0 = P.val
    omega
  · have hi : ¬ ((2 : Fin 3) ∈ D.startIndexMap) := by rw [hs]; decide
    have e0 : D.start (ix4 b k p q) idx (2 : Fin 3) = 0 := by
      unfold GatherDims.start
      exact dif_neg hi
    show D.start (ix4 b k p q) idx (2 : Fin 3) + 0 + D.offCoord (ix4 b k p q) (2 : Fin 3) = q.val
    rw [e0, Nat.zero_add]
    have ho : D.offsetDims = [3] := by rw [← hD]; rfl
    have hk : D.sKept = [2] := by
      show Shape.kept _ (D.collapsedSliceDims ++ D.operandBatchingDims) = _
      rw [hc, hb]
      decide
    have hm : (2 : Fin 3) ∈ D.sKept := by rw [hk]; exact List.mem_singleton.mpr rfl
    unfold GatherDims.offCoord
    erw [dif_pos hm]
    have he : ∀ (l l' : List (Fin 4)) (i i' : ℕ) (h : i < l.length) (h' : i' < l'.length), l = l' → i = i' → l[i] = l'[i'] := by
      intro l l' i i' h h' e e'; subst e; subst e'; rfl
    exact congrArg (fun d => ((ix4 b k p q : S4x20x845x4.Idx) d).val)
      (he D.offsetDims [3] (D.sKept.idxOf (2 : Fin 3)) 0 _ (by decide) ho (by rw [hk]; rfl))

/-- A score picked by its image, class and number. -/
theorem gather_score (x : S4x20x845.Idx → α) (idx : IVec S4x20x845x3 32) (b : Fin 4) (k : Fin 20) (p : Fin 845) (B : Fin 4) (K : Fin 20) (P : Fin 845)
    (h0 : idx (ix4 b k p 0) = BitVec.ofNat 32 B.val) (h1 : idx (ix4 b k p 1) = BitVec.ofNat 32 K.val) (h2 : idx (ix4 b k p 2) = BitVec.ofNat 32 P.val) :
    Host.gather gather_S4x20x845_S4x20x845x3_S4x20x845_n_012_n_n_012_3_111 x idx (ix3 b k p) = x (ix3 B K P) := by
  unfold Host.gather
  congr 1
  funext a
  refine Fin.ext ?_
  generalize hD : gather_S4x20x845_S4x20x845x3_S4x20x845_n_012_n_n_012_3_111 = D
  have hs : D.startIndexMap = [0, 1, 2] := by rw [← hD]; rfl
  have hc : D.collapsedSliceDims = [0, 1, 2] := by rw [← hD]; rfl
  have hb : D.operandBatchingDims = [] := by rw [← hD]; rfl
  show D.start (ix3 b k p) idx a + D.batchCoord (ix3 b k p) a + D.offCoord (ix3 b k p) a = _
  have hi : a ∈ D.startIndexMap := by rw [hs]; revert a; decide
  rw [GatherDims.batchCoord_eq_zero _ _ _ (by rw [hb]; exact List.not_mem_nil),
    GatherDims.offCoord_eq_zero _ _ _ (fun h => ((GatherDims.mem_sKept _ _).mp h).1 (by rw [hc, ← hs]; exact hi))]
  unfold GatherDims.start
  rw [dif_pos hi]
  have hsi : D.siIdx (ix3 b k p) ⟨D.startIndexMap.idxOf a, List.idxOf_lt_length_iff.2 hi⟩ = ix4 b k p a := by
    subst hD
    funext d
    refine Fin.ext ?_
    match d with
    | ⟨0, _⟩ => rfl
    | ⟨1, _⟩ => rfl
    | ⟨2, _⟩ => rfl
    | ⟨3, _⟩ =>
      revert a
      refine Fin.cases ?_ (Fin.cases ?_ (Fin.cases ?_ fun a => a.elim0)) <;> intros <;> rfl
  rw [hsi]
  subst hD
  revert a
  refine Fin.cases ?_ (Fin.cases ?_ (Fin.cases ?_ fun a => a.elim0))
  · intros
    show min (idx (ix4 b k p 0)).toInt.toNat (4 - 1) + 0 + 0 = B.val
    rw [h0, word_nat _ (by omega)]
    omega
  · intros
    show min (idx (ix4 b k p 1)).toInt.toNat (20 - 1) + 0 + 0 = K.val
    rw [h1, word_nat _ (by omega)]
    omega
  · intros
    show min (idx (ix4 b k p 2)).toInt.toNat (845 - 1) + 0 + 0 = P.val
    rw [h2, word_nat _ (by omega)]
    omega

end Gather

/-! ### The scores put back -/

section Scatter

variable {α : Type}

theorem lands (idx : IVec S4x20x845x3 32) (b : Fin 4) (k : Fin 20) (p : Fin 845) (B : Fin 4) (K : Fin 20) (P : Fin 845)
    (h0 : idx (ix4 b k p 0) = BitVec.ofNat 32 B.val) (h1 : idx (ix4 b k p 1) = BitVec.ofNat 32 K.val) (h2 : idx (ix4 b k p 2) = BitVec.ofNat 32 P.val) :
    scatter_S4x20x845_S4x20x845x3_S4x20x845_n_012_012_3.resultIdx? (ix3 b k p) idx = some (ix3 B K P) := by
  generalize hD : scatter_S4x20x845_S4x20x845x3_S4x20x845_n_012_012_3 = D
  have hs : D.scatterDimsToOperandDims = [0, 1, 2] := by rw [← hD]; rfl
  have hsi : ∀ (a : Fin 3) (hi : a ∈ D.scatterDimsToOperandDims), D.siIdx (ix3 b k p) ⟨D.scatterDimsToOperandDims.idxOf a, List.idxOf_lt_length_iff.2 hi⟩ = ix4 b k p a := by
    intro a hi
    subst hD
    funext d
    refine Fin.ext ?_
    match d with
    | ⟨0, _⟩ => rfl
    | ⟨1, _⟩ => rfl
    | ⟨2, _⟩ => rfl
    | ⟨3, _⟩ =>
      revert a
      refine Fin.cases ?_ (Fin.cases ?_ (Fin.cases ?_ fun a => a.elim0)) <;> intros <;> rfl
  have hst : ∀ a : Fin 3, D.start (ix3 b k p) idx a = ((ix3 B K P : S4x20x845.Idx) a).val := by
    intro a
    have hi : a ∈ D.scatterDimsToOperandDims := by rw [hs]; revert a; decide
    unfold ScatterDims.start
    rw [dif_pos hi, hsi a hi]
    revert a
    refine Fin.cases ?_ (Fin.cases ?_ (Fin.cases ?_ fun a => a.elim0))
    · intros; show (idx (ix4 b k p 0)).toInt = (B.val : ℤ); rw [h0, word_nat _ (by omega)]
    · intros; show (idx (ix4 b k p 1)).toInt = (K.val : ℤ); rw [h1, word_nat _ (by omega)]
    · intros; show (idx (ix4 b k p 2)).toInt = (P.val : ℤ); rw [h2, word_nat _ (by omega)]
  have hw : ∀ a : Fin 3, D.window (ix3 b k p) a = 0 := by
    intro a
    subst hD
    revert a
    refine Fin.cases ?_ (Fin.cases ?_ (Fin.cases ?_ fun a => a.elim0)) <;> rfl
  unfold ScatterDims.resultIdx?
  rw [dif_pos (fun a => by
    rw [hst a, hw a]
    exact ⟨by omega, lt_of_eq_of_lt (by simp) (Int.ofNat_lt.mpr ((ix3 B K P : S4x20x845.Idx) a).isLt)⟩)]
  refine congrArg some (funext fun a => Fin.ext ?_)
  show (D.start (ix3 b k p) idx a + D.window (ix3 b k p) a).toNat = _
  rw [hst a, hw a]
  omega

/-- A fold of overwrites, read where no write lands on; -/
theorem fold_miss {ι β : Type} [DecidableEq β] (at? : ι → Option β) (v : ι → α) (i : β) : ∀ (l : List ι) (x : β → α), (∀ n ∈ l, at? n ≠ some i) →
    l.foldl (fun r n => match at? n with | some j => fun i' => if i' = j then v n else r i' | none => r) x i = x i
  | [], _, _ => rfl
  | n :: l, x, h => by
    rw [List.foldl_cons, fold_miss at? v i l _ fun n' hn' => h n' (List.mem_cons_of_mem _ hn')]
    cases e : at? n with
    | none => rfl
    | some j => exact if_neg fun e' => h n List.mem_cons_self (e.trans (congrArg some e'.symm))

/-- and where one does, no other. -/
theorem fold_hit {ι β : Type} [DecidableEq β] (at? : ι → Option β) (v : ι → α) (i : β) (n₀ : ι) (h₀ : at? n₀ = some i) (hu : ∀ n, at? n = some i → n = n₀) :
    ∀ (l : List ι) (x : β → α), n₀ ∈ l →
    l.foldl (fun r n => match at? n with | some j => fun i' => if i' = j then v n else r i' | none => r) x i = v n₀
  | [], _, h => absurd h List.not_mem_nil
  | n :: l, x, h => by
    rw [List.foldl_cons]
    by_cases hm : n₀ ∈ l
    · exact fold_hit at? v i n₀ h₀ hu l _ hm
    · obtain rfl : n₀ = n := (List.mem_cons.mp h).resolve_right hm
      rw [fold_miss at? v i l _ fun n' hn' e => hm (hu n' e ▸ hn'), h₀]
      exact if_pos rfl

/-- The host's overwrite at a place one update alone lands on. -/
theorem scatter_hit {s si su : Shape} (d : ScatterDims s si su) {w : ℕ} (x : s.Idx → α) (idx : IVec si w) (u : su.Idx → α) (i : s.Idx) (j : su.Idx)
    (h : d.resultIdx? j idx = some i) (hu : ∀ j', d.resultIdx? j' idx = some i → j' = j) :
    Host.scatter d (fun _ v => v) x idx u i = u j := by
  unfold Host.scatter
  have key := fold_hit (fun n => d.resultIdx? (su.rowMajor.symm n) idx) (fun n => u (su.rowMajor.symm n)) i (su.rowMajor j)
    (by rw [Equiv.symm_apply_apply]; exact h) (fun n hn => by rw [← hu _ hn, Equiv.apply_symm_apply]) (List.finRange su.numel) x (List.mem_finRange _)
  rw [Equiv.symm_apply_apply] at key
  refine (congrArg (fun f => List.foldl f x (List.finRange su.numel) i) (funext fun r => funext fun n => ?_)).trans key
  dsimp only
  cases d.resultIdx? (su.rowMajor.symm n) idx with
  | none => rfl
  | some j =>
    funext i'
    by_cases e : i' = j
    · simp [e]
    · simp [e]

/-- The scores put back by a one-to-one numbering of each image's and class's places. -/
theorem scatter_score (x : S4x20x845.Idx → α) (idx : IVec S4x20x845x3 32) (u : S4x20x845.Idx → α) (σ : Fin 4 → Fin 20 → Fin 845 → Fin 845)
    (hσ : ∀ b k, Function.Injective (σ b k)) (h0 : ∀ b k p, idx (ix4 b k p 0) = BitVec.ofNat 32 b.val) (h1 : ∀ b k p, idx (ix4 b k p 1) = BitVec.ofNat 32 k.val)
    (h2 : ∀ b k p, idx (ix4 b k p 2) = BitVec.ofNat 32 (σ b k p).val) (b : Fin 4) (k : Fin 20) (p : Fin 845) :
    Host.scatter scatter_S4x20x845_S4x20x845x3_S4x20x845_n_012_012_3 (fun _ w => w) x idx u (ix3 b k (σ b k p)) = u (ix3 b k p) := by
  have hl : ∀ j : S4x20x845.Idx, scatter_S4x20x845_S4x20x845x3_S4x20x845_n_012_012_3.resultIdx? j idx = some (ix3 (j 0) (j 1) (σ (j 0) (j 1) (j 2))) := by
    intro j
    have e : j = ix3 (j 0) (j 1) (j 2) := by
      funext d
      match d with
      | ⟨0, _⟩ => rfl
      | ⟨1, _⟩ => rfl
      | ⟨2, _⟩ => rfl
    rw [e]
    exact lands idx _ _ _ _ _ _ (h0 _ _ _) (h1 _ _ _) (h2 _ _ _)
  refine scatter_hit _ x idx u _ (ix3 b k p) (lands idx _ _ _ _ _ _ (h0 _ _ _) (h1 _ _ _) (h2 _ _ _)) fun n hn => ?_
  rw [hl] at hn
  have e := Option.some.inj hn
  have e0 : n 0 = b := congrFun e 0
  have e1 : n 1 = k := congrFun e 1
  have e2 : σ (n 0) (n 1) (n 2) = σ b k p := congrFun e 2
  rw [e0, e1] at e2
  have e3 := hσ b k e2
  funext d
  match d with
  | ⟨0, _⟩ => exact e0
  | ⟨1, _⟩ => exact e1
  | ⟨2, _⟩ => exact e3

end Scatter

end Cert.Proof.RI

end
-- ==== Proof.RI.Order.lean ====
/-
  The reference's order: each image's and class's boxes sorted by their negated scores, equal scores by the lower number.
-/
module

public import proofs.«01_k».proof.Proof.RI.Pick
public import proofs.«01_k».proof.Proof.Spec
public import Idealize.ShloMosaic.Lib.SortFacts

@[expose] public section

set_option maxRecDepth 16384

noncomputable section

namespace Cert.Proof.RI

open Cert.ReferenceIdeal Cert.ReferenceIdeal.Gen
open Idealize.ShloMosaic

section Sorted

variable {n : ℕ} (f : Fin n → EReal) (R : Fin n → Fin n → Bool) (hR : ∀ a b, R a b = true ↔ f a < f b)

/-- The smaller key first, of equal keys the lower number. -/
def Lex (f : Fin n → EReal) (a b : Fin n) : Prop := f a < f b ∨ (f a = f b ∧ a < b)

include hR

theorem insert_lex (a : Fin n) : ∀ l : List (Fin n), l.Pairwise (Lex f) → (∀ b ∈ l, a < b) → (insertBefore R a l).Pairwise (Lex f)
  | [], _, _ => List.pairwise_singleton _ _
  | b :: l, hl, ha => by
    obtain ⟨hb, hl'⟩ := List.pairwise_cons.mp hl
    unfold insertBefore
    split
    · rename_i h
      refine List.pairwise_cons.mpr ⟨fun c hc => ?_, insert_lex a l hl' fun c hc => ha c (List.mem_cons_of_mem _ hc)⟩
      rcases List.mem_cons.mp ((perm_insertBefore R a l).mem_iff.mp hc) with e | hc'
      · exact e ▸ Or.inl ((hR b a).mp h)
      · exact hb c hc'
    · rename_i h
      have hab : f a ≤ f b := not_lt.mp fun h' => h ((hR b a).mpr h')
      refine List.pairwise_cons.mpr ⟨fun c hc => ?_, hl⟩
      have hac : f a ≤ f c := by
        rcases List.mem_cons.mp hc with e | hc'
        · exact e ▸ hab
        · exact hab.trans ((hb c hc').elim le_of_lt fun h => le_of_eq h.1)
      exact (lt_or_eq_of_le hac).imp id fun e => ⟨e, ha c hc⟩

theorem stable_lex : ∀ l : List (Fin n), l.Pairwise (· < ·) → (stableSort R l).Pairwise (Lex f)
  | [], _ => List.Pairwise.nil
  | a :: l, h => by
    obtain ⟨ha, hl⟩ := List.pairwise_cons.mp h
    exact insert_lex f R hR a _ (stable_lex l hl) fun b hb => ha b ((perm_stableSort R l).mem_iff.mp hb)

theorem sorted_lex {p q : Fin n} (h : p < q) : Lex f (sortedFrom R p) (sortedFrom R q) :=
  List.pairwise_iff_get.mp (stable_lex f R hR _ (List.pairwise_lt_finRange n)) _ _ (show _ < _ from h)

end Sorted

/-- The comparison takes the smaller first: replacing a zero by zero and comparing a number with itself change nothing. -/
theorem smaller (x y : EReal) (i j : BitVec 32) : comparator_f32_i32_d2 (F := Ideal) (x, i) (y, j) = 1#1 ↔ x < y := by
  have hz : Ideal.ofBits FTy.f32 0x00000000#32 = 0 := by simp [Ideal.ofBits, Ideal.ieee]
  have hc : ∀ t : EReal, Scalar.select (FloatOps.cmpf (F := Ideal) (φ := .f32) .une t t) (FloatOps.ofBits (F := Ideal) .f32 0x7FC00000#32)
      (Scalar.select (FloatOps.cmpf (F := Ideal) (φ := .f32) .oeq t (FloatOps.ofBits (F := Ideal) .f32 0x00000000#32)) (FloatOps.ofBits (F := Ideal) .f32 0x00000000#32) t) = t := by
    intro t
    show Scalar.select (BitVec.ofBool (decide (t ≠ t))) (Ideal.ofBits FTy.f32 0x7FC00000#32)
      (Scalar.select (BitVec.ofBool (decide (t = Ideal.ofBits FTy.f32 0x00000000#32))) (Ideal.ofBits FTy.f32 0x00000000#32) t) = t
    rw [hz]
    by_cases h : t = 0 <;> simp [h, Scalar.select]
  unfold comparator_f32_i32_d2
  dsimp only
  rw [hc, hc]
  show BitVec.ofBool (decide (x < y)) = 1#1 ↔ _
  by_cases h : x < y <;> simp [h]

/-- Where the box that comes at place `p` is. -/
def place (x : FVec Ideal S4x20x845 .f32) (b : Fin 4) (k : Fin 20) : Fin 845 → Fin 845 :=
  sortedFrom fun i j => comparator_f32_i32_d2 (F := Ideal) (x (ix3 b k i), BitVec.ofNat 32 i.val) (x (ix3 b k j), BitVec.ofNat 32 j.val) == 1#1

theorem place_bij (x : FVec Ideal S4x20x845 .f32) (b : Fin 4) (k : Fin 20) : Function.Bijective (place x b k) :=
  ⟨sortedFrom_injective _, sortedFrom_surjective _⟩

theorem place_lex (x : FVec Ideal S4x20x845 .f32) (b : Fin 4) (k : Fin 20) {p q : Fin 845} (h : p < q) :
    Lex (fun n => x (ix3 b k n)) (place x b k p) (place x b k q) :=
  sorted_lex _ _ (fun i j => by rw [beq_iff_eq]; exact smaller _ _ _ _) h

/-- What the sort of a pair carries along. -/
theorem sort2_snd {s : Shape} {d : ℕ} (hd : d < s.rank) {α β : Type} (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- A read through a sorting of places, when the coordinates along the axis are the plain ones. -/
theorem sorted_read {n : ℕ} {β : Type} (R R' : Fin n → Fin n → Bool) (h : ∀ i j, R i j = R' i j) (f g : Fin n → β) (hf : ∀ i, f i = g i) (p : Fin n) :
    f (sortedFrom R p) = g (sortedFrom R' p) := by
  obtain rfl : R = R' := funext fun i => funext fun j => h i j
  exact hf _

theorem sorted_word (x : FVec Ideal S4x20x845 .f32) (b : Fin 4) (k : Fin 20) (p : Fin 845) :
    (Host.sort2 S4x20x845 2 (comparator_f32_i32_d2 (F := Ideal)) x (iotaInDim S4x20x845 32 2)).2 (ix3 b k p) = BitVec.ofNat 32 (place x b k p).val := by
  have ha : ∀ n : Fin 845, (ix3 b k p : S4x20x845.Idx).along (2 : Fin 3) n = ix3 b k n := by
    intro n
    unfold Shape.Idx.along
    funext d
    match d with
    | ⟨0, _⟩ => rfl
    | ⟨1, _⟩ => rfl
    | ⟨2, _⟩ => rfl
  have hi : ∀ n : Fin 845, iotaInDim S4x20x845 32 2 ((ix3 b k p : S4x20x845.Idx).along (2 : Fin 3) n) = BitVec.ofNat 32 n.val := fun n => by rw [ha]; rfl
  refine (sort2_snd (s := S4x20x845) (d := 2) (by decide) _ _ _ _).trans ?_
  unfold place
  refine sorted_read (n := 845) _ _ (fun i j => ?_) (fun n => iotaInDim S4x20x845 32 2 ((ix3 b k p : S4x20x845.Idx).along (2 : Fin 3) n)) (fun n => BitVec.ofNat 32 n.val) hi p
  exact congrArg₂ (fun u v : S4x20x845.Idx => comparator_f32_i32_d2 (F := Ideal) (x u, iotaInDim S4x20x845 32 2 u) (x v, iotaInDim S4x20x845 32 2 v) == 1#1)
    (ha i) (ha j)

end Cert.Proof.RI

end
-- ==== Proof.RI.Boxes.lean ====
/-
  The reference's boxes, element by element.
-/
module

public import proofs.«01_k».proof.Proof.RefRun
public import proofs.«01_k».proof.Proof.Spec
public import Idealize.ShloMosaic.Lib.StableHlo.RunRead

@[expose] public section

set_option maxRecDepth 16384

noncomputable section

namespace Cert.Proof.RI

open Cert.ReferenceIdeal Cert.ReferenceIdeal.Gen
open Idealize.ShloMosaic Idealize.ShloMosaic.TcCoe
open Idealize.ShloMosaic.StableHlo

theorem bias_w (a : Fin 5) : lit0 (S5x2.rowMajor (ix2 a 0)) = Spec.biasW a := by revert a; decide +kernel
theorem bias_h (a : Fin 5) : lit0 (S5x2.rowMajor (ix2 a 1)) = Spec.biasH a := by revert a; decide +kernel

theorem odd_off (n : ℕ) : 10 + (1 + 2 * n) = 11 + 2 * n := by omega

section Read

variable (V : Valuation τ sig (Elt Ideal))

/-- The two arguments, and one image's channels. -/
abbrev featOf : FVec Ideal S4x125x13x13 .f32 := V (Proc.devRef .tc main_arg0)
abbrev infoOf : FVec Ideal S4x2 .f32 := V (Proc.devRef .tc main_arg1)
def chans (x : FVec Ideal S4x125x13x13 .f32) (b : Fin 4) : Fin 125 → Fin 169 → EReal := fun ch p => x (ix4 b ch ⟨p.val / 13, by omega⟩ ⟨p.val % 13, by omega⟩)

variable (b : Fin 4) (a : Fin 5) (r s : Fin 13)

theorem x1_at : (after hostOps0 V (Proc.devRef .tc main_v81) : FVec Ideal S4x5x13x13 .f32) (ix4 b a r s)
    = Spec.lo (Spec.biasW a) (featOf V (ix4 b ⟨2 * a.val, by omega⟩ r s)) (featOf V (ix4 b ⟨10 + 2 * a.val, by omega⟩ r s)) (Spec.whole s.val) (infoOf V (ix2 b 1)) := by
  after_reads_simp
  pointwise
  rw [bias_w]
  simp only [Nat.mul_comm _ 2]
  rfl
theorem y1_at : (after hostOps0 V (Proc.devRef .tc main_v86) : FVec Ideal S4x5x13x13 .f32) (ix4 b a r s)
    = Spec.lo (Spec.biasH a) (featOf V (ix4 b ⟨1 + 2 * a.val, by omega⟩ r s)) (featOf V (ix4 b ⟨11 + 2 * a.val, by omega⟩ r s)) (Spec.whole r.val) (infoOf V (ix2 b 0)) := by
  after_reads_simp
  pointwise
  rw [bias_h]
  simp only [Nat.mul_comm _ 2, Nat.add_comm _ 1, odd_off]
  rfl
theorem x2_at : (after hostOps0 V (Proc.devRef .tc main_v91) : FVec Ideal S4x5x13x13 .f32) (ix4 b a r s)
    = Spec.hi (Spec.biasW a) (featOf V (ix4 b ⟨2 * a.val, by omega⟩ r s)) (featOf V (ix4 b ⟨10 + 2 * a.val, by omega⟩ r s)) (Spec.whole s.val) (infoOf V (ix2 b 1)) := by
  after_reads_simp
  pointwise
  rw [bias_w]
  simp only [Nat.mul_comm _ 2]
  rfl
theorem y2_at : (after hostOps0 V (Proc.devRef .tc main_v96) : FVec Ideal S4x5x13x13 .f32) (ix4 b a r s)
    = Spec.hi (Spec.biasH a) (featOf V (ix4 b ⟨1 + 2 * a.val, by omega⟩ r s)) (featOf V (ix4 b ⟨11 + 2 * a.val, by omega⟩ r s)) (Spec.whole r.val) (infoOf V (ix2 b 0)) := by
  after_reads_simp
  pointwise
  rw [bias_h]
  simp only [Nat.mul_comm _ 2, Nat.add_comm _ 1, odd_off]
  rfl

/-- A box of the reference is the specification's. -/
theorem box_at (n : Fin 845) (q : Fin 4) : (after hostOps0 V (Proc.devRef .tc main_v102) : FVec Ideal S4x845x4 .f32) (ix3 b n q)
    = Spec.box (infoOf V (ix2 b 0)) (infoOf V (ix2 b 1)) (chans (featOf V) b) n q := by
  have e1 := x1_at V b (Spec.anch n) ⟨n.val % 169 / 13, by omega⟩ ⟨n.val % 169 % 13, by omega⟩
  have e2 := y1_at V b (Spec.anch n) ⟨n.val % 169 / 13, by omega⟩ ⟨n.val % 169 % 13, by omega⟩
  have e3 := x2_at V b (Spec.anch n) ⟨n.val % 169 / 13, by omega⟩ ⟨n.val % 169 % 13, by omega⟩
  have e4 := y2_at V b (Spec.anch n) ⟨n.val % 169 / 13, by omega⟩ ⟨n.val % 169 % 13, by omega⟩
  have h : (after hostOps0 V (Proc.devRef .tc main_v102) : FVec Ideal S4x845x4 .f32) (ix3 b n q)
    = (![after hostOps0 V (Proc.devRef .tc main_v81) (ix4 (n0 := 4) (n1 := 5) (n2 := 13) (n3 := 13) b (Spec.anch n) ⟨n.val % 169 / 13, by omega⟩ ⟨n.val % 169 % 13, by omega⟩),
        after hostOps0 V (Proc.devRef .tc main_v86) (ix4 (n0 := 4) (n1 := 5) (n2 := 13) (n3 := 13) b (Spec.anch n) ⟨n.val % 169 / 13, by omega⟩ ⟨n.val % 169 % 13, by omega⟩),
        after hostOps0 V (Proc.devRef .tc main_v91) (ix4 (n0 := 4) (n1 := 5) (n2 := 13) (n3 := 13) b (Spec.anch n) ⟨n.val % 169 / 13, by omega⟩ ⟨n.val % 169 % 13, by omega⟩),
        after hostOps0 V (Proc.devRef .tc main_v96) (ix4 (n0 := 4) (n1 := 5) (n2 := 13) (n3 := 13) b (Spec.anch n) ⟨n.val % 169 / 13, by omega⟩ ⟨n.val % 169 % 13, by omega⟩)] : Fin 4 → EReal) q := by
    have hc : (after hostOps0 V (Proc.devRef .tc main_v102) : FVec Ideal S4x845x4 .f32)
        = shapeCast S4x845x4 (concatenate S4x5x13x13x4 4 [⟨S4x5x13x13x1, broadcastInDim S4x5x13x13x1 ![0, 1, 2, 3] bcast_S4x5x13x13_S4x5x13x13x1_0_1_2_3 (after hostOps0 V (Proc.devRef .tc main_v81))⟩,
          ⟨S4x5x13x13x1, broadcastInDim S4x5x13x13x1 ![0, 1, 2, 3] bcast_S4x5x13x13_S4x5x13x13x1_0_1_2_3 (after hostOps0 V (Proc.devRef .tc main_v86))⟩,
          ⟨S4x5x13x13x1, broadcastInDim S4x5x13x13x1 ![0, 1, 2, 3] bcast_S4x5x13x13_S4x5x13x13x1_0_1_2_3 (after hostOps0 V (Proc.devRef .tc main_v91))⟩,
          ⟨S4x5x13x13x1, broadcastInDim S4x5x13x13x1 ![0, 1, 2, 3] bcast_S4x5x13x13_S4x5x13x13x1_0_1_2_3 (after hostOps0 V (Proc.devRef .tc main_v96))⟩]
          concatenates_S4x5x13x13x1_S4x5x13x13x1_S4x5x13x13x1_S4x5x13x13x1_S4x5x13x13x4_d4) shapeCasts_S4x5x13x13x4_S4x845x4 := by
      have c0 : (upto hostOps0 V 117 (Proc.devRef .tc main_v97) : FVec Ideal S4x5x13x13x1 .f32)
          = broadcastInDim S4x5x13x13x1 ![0, 1, 2, 3] bcast_S4x5x13x13_S4x5x13x13x1_0_1_2_3 (after hostOps0 V (Proc.devRef .tc main_v81) : FVec Ideal S4x5x13x13 .f32) := by
        after_reads_simp
      have c1 : (upto hostOps0 V 117 (Proc.devRef .tc main_v98) : FVec Ideal S4x5x13x13x1 .f32)
          = broadcastInDim S4x5x13x13x1 ![0, 1, 2, 3] bcast_S4x5x13x13_S4x5x13x13x1_0_1_2_3 (after hostOps0 V (Proc.devRef .tc main_v86) : FVec Ideal S4x5x13x13 .f32) := by
        after_reads_simp
      have c2 : (upto hostOps0 V 117 (Proc.devRef .tc main_v99) : FVec Ideal S4x5x13x13x1 .f32)
          = broadcastInDim S4x5x13x13x1 ![0, 1, 2, 3] bcast_S4x5x13x13_S4x5x13x13x1_0_1_2_3 (after hostOps0 V (Proc.devRef .tc main_v91) : FVec Ideal S4x5x13x13 .f32) := by
        after_reads_simp
      have c3 : (upto hostOps0 V 117 (Proc.devRef .tc main_v100) : FVec Ideal S4x5x13x13x1 .f32)
          = broadcastInDim S4x5x13x13x1 ![0, 1, 2, 3] bcast_S4x5x13x13_S4x5x13x13x1_0_1_2_3 (after hostOps0 V (Proc.devRef .tc main_v96) : FVec Ideal S4x5x13x13 .f32) := by
        after_reads_simp
      after_reads_simp
      show shapeCast S4x845x4 (concatenate S4x5x13x13x4 4 [⟨S4x5x13x13x1, (upto hostOps0 V 117 (Proc.devRef .tc main_v97) : FVec Ideal S4x5x13x13x1 .f32)⟩,
          ⟨S4x5x13x13x1, (upto hostOps0 V 117 (Proc.devRef .tc main_v98) : FVec Ideal S4x5x13x13x1 .f32)⟩,
          ⟨S4x5x13x13x1, (upto hostOps0 V 117 (Proc.devRef .tc main_v99) : FVec Ideal S4x5x13x13x1 .f32)⟩,
          ⟨S4x5x13x13x1, (upto hostOps0 V 117 (Proc.devRef .tc main_v100) : FVec Ideal S4x5x13x13x1 .f32)⟩] _) _ = _
      rw [c0, c1, c2, c3]
    rw [hc]
    generalize (after hostOps0 V (Proc.devRef .tc main_v81) : FVec Ideal S4x5x13x13 .f32) = v1
    generalize (after hostOps0 V (Proc.devRef .tc main_v86) : FVec Ideal S4x5x13x13 .f32) = v2
    generalize (after hostOps0 V (Proc.devRef .tc main_v91) : FVec Ideal S4x5x13x13 .f32) = v3
    generalize (after hostOps0 V (Proc.devRef .tc main_v96) : FVec Ideal S4x5x13x13 .f32) = v4
    have i : ∀ v : FVec Ideal S4x5x13x13 .f32, v (ix4 b ⟨n.val / 169, by omega⟩ ⟨n.val / 13 % 13, by omega⟩ ⟨n.val % 13, by omega⟩)
        = v (ix4 b (Spec.anch n) ⟨n.val % 169 / 13, by omega⟩ ⟨n.val % 169 % 13, by omega⟩) := by
      intro v
      have e : (⟨n.val / 13 % 13, by omega⟩ : Fin 13) = ⟨n.val % 169 / 13, by omega⟩ := Fin.ext (by show n.val / 13 % 13 = n.val % 169 / 13; omega)
      have e' : (⟨n.val % 13, by omega⟩ : Fin 13) = ⟨n.val % 169 % 13, by omega⟩ := Fin.ext (by show n.val % 13 = n.val % 169 % 13; omega)
      rw [e, e']
    pointwise
    clear hc e1 e2 e3 e4
    revert q
    exact Fin.cases (i v1) (Fin.cases (i v2) (Fin.cases (i v3) (Fin.cases (i v4) fun q => q.elim0)))
  refine h.trans ?_
  clear h
  unfold Spec.box Spec.corner
  revert q
  exact Fin.cases e1 (Fin.cases e2 (Fin.cases e3 (Fin.cases e4 fun q => q.elim0)))

end Read

end Cert.Proof.RI

end
-- ==== Proof.RI.Scores.lean ====
/-
  The reference's class scores, element by element, before and after the ones not above zero are dropped.
-/
module

public import proofs.«01_k».proof.Proof.RI.Boxes

@[expose] public section

set_option maxRecDepth 16384

noncomputable section

namespace Cert.Proof.RI

open Cert.ReferenceIdeal Cert.ReferenceIdeal.Gen
open Idealize.ShloMosaic Idealize.ShloMosaic.TcCoe
open Idealize.ShloMosaic.StableHlo
open scoped Classical

variable (V : Valuation τ sig (Elt Ideal)) (b : Fin 4) (k : Fin 20)

/-- A channel read at the number's row and column is the image's channel at the number's cell. -/
theorem chan_at (x : FVec Ideal S4x125x13x13 .f32) (b : Fin 4) (n : Fin 845) (i j : ℕ) (hi : i < 125) (hj : j < 125) (e : i = j) :
    x (ix4 b ⟨i, hi⟩ ⟨n.val / 13 % 13, by omega⟩ ⟨n.val % 13, by omega⟩) = chans x b ⟨j, hj⟩ (Spec.cell n) := by
  subst e
  have e : (⟨n.val / 13 % 13, by omega⟩ : Fin 13) = ⟨n.val % 169 / 13, by omega⟩ := Fin.ext (by show n.val / 13 % 13 = n.val % 169 / 13; omega)
  have e' : (⟨n.val % 13, by omega⟩ : Fin 13) = ⟨n.val % 169 % 13, by omega⟩ := Fin.ext (by show n.val % 13 = n.val % 169 % 13; omega)
  rw [e, e']
  rfl

theorem max_start (w : EReal) (f : Fin 20 → EReal) : max w (Finset.fold max w f Finset.univ) = Finset.fold max w f Finset.univ :=
  max_eq_right ((Finset.le_fold_max _).mpr (.inl le_rfl))

theorem raw_at (n : Fin 845) : (after hostOps0 V (Proc.devRef .tc main_v104) : FVec Ideal S4x20x845 .f32) (ix3 b k n)
    = Spec.raw (chans (featOf V) b) (Spec.anch n) (Spec.cell n) k := by
  after_reads_simp
  pointwise
  have hx : ∀ l : Fin 20, featOf V (ix4 b ⟨25 + (n.val / 169 * 20 + l.val), by omega⟩ ⟨n.val / 13 % 13, by omega⟩ ⟨n.val % 13, by omega⟩)
      = chans (featOf V) b ⟨25 + 20 * (Spec.anch n).val + l.val, by have := (Spec.anch n).isLt; omega⟩ (Spec.cell n) :=
    fun l => chan_at _ b n _ _ _ _ (by show 25 + (n.val / 169 * 20 + l.val) = 25 + 20 * (n.val / 169) + l.val; omega)
  have ho : featOf V (ix4 b ⟨20 + n.val / 169, by omega⟩ ⟨n.val / 13 % 13, by omega⟩ ⟨n.val % 13, by omega⟩)
      = chans (featOf V) b ⟨20 + (Spec.anch n).val, by have := (Spec.anch n).isLt; omega⟩ (Spec.cell n) := chan_at _ b n _ _ _ _ rfl
  simp only [hx, ho, max_start]
  rfl

theorem score_at (n : Fin 845) : (after hostOps0_1 (after hostOps0 V) (Proc.devRef .tc main_v107) : FVec Ideal S4x20x845 .f32) (ix3 b k n)
    = Spec.score (chans (featOf V) b) k n := by
  have h : (after hostOps0_1 (after hostOps0 V) (Proc.devRef .tc main_v107) : FVec Ideal S4x20x845 .f32) (ix3 b k n)
      = Spec.pos ((after hostOps0 V (Proc.devRef .tc main_v104) : FVec Ideal S4x20x845 .f32) (ix3 b k n)) := by
    have h6 : (after hostOps0 V (Proc.devRef .tc main_v106) : IVec S4x20x845 1)
        = cmpf (F := Ideal) .ogt (after hostOps0 V (Proc.devRef .tc main_v104) : FVec Ideal S4x20x845 .f32) (broadcastInDim S4x20x845 ![] bcast_S_S4x20x845 (constant (F := Ideal) S_ .f32 0x00000000#32)) := by
      after_reads_simp
    have hz : (after hostOps0 V (Proc.devRef .tc main_cst_16) : FVec Ideal S_ .f32) = constant (F := Ideal) S_ .f32 0x00000000#32 := by
      after_reads_simp
    generalize after hostOps0 V = W at h6 hz
    after_reads_simp
    show select (W (Proc.devRef .tc main_v106) : IVec S4x20x845 1) (W (Proc.devRef .tc main_v104) : FVec Ideal S4x20x845 .f32)
      (broadcastInDim S4x20x845 ![] bcast_S_S4x20x845 (W (Proc.devRef .tc main_cst_16) : FVec Ideal S_ .f32)) (ix3 b k n) = _
    rw [h6, hz]
    generalize (W (Proc.devRef .tc main_v104) : FVec Ideal S4x20x845 .f32) = v
    pointwise
    unfold Spec.pos
    by_cases hv : (0 : EReal) < (v : FVec Ideal S4x20x845 .f32) (ix3 b k n)
    · rw [if_pos hv]
    · rw [if_neg hv]
  rw [h, raw_at]
  rfl

end Cert.Proof.RI

end
-- ==== Proof.RI.Entry.lean ====
/-
  What the reference's loop starts with: the order of each class's boxes, and the overlap of any two in that order.
-/
module

public import proofs.«01_k».proof.Proof.RI.Order
public import proofs.«01_k».proof.Proof.RI.Scores

@[expose] public section

set_option maxRecDepth 16384

noncomputable section

namespace Cert.Proof.RI

open Cert.ReferenceIdeal Cert.ReferenceIdeal.Gen
open Idealize.ShloMosaic Idealize.ShloMosaic.TcCoe
open Idealize.ShloMosaic.StableHlo
open scoped Classical

/-- A number below a thousand is not negative: the index it stands for is itself. -/
theorem wrap (n : ℕ) (h : n < 1000) (w : BitVec 32) : Scalar.select (IntOp.cmpi .slt (BitVec.ofNat 32 n) 0#32) w (BitVec.ofNat 32 n) = BitVec.ofNat 32 n := by
  refine if_neg fun e => ?_
  replace e : IntOp.cmpi .slt (BitVec.ofNat 32 n) 0#32 = 1#1 := e
  rw [IntOp.cmpi_slt, word_nat n h] at e
  have : (0#32 : BitVec 32).toInt = 0 := rfl
  omega

section Sorted

variable (U : Valuation τ sig (Elt Ideal)) (σ : Fin 4 → Fin 20 → Fin 845 → Fin 845)
  (hσ : ∀ b k p, (U (Proc.devRef .tc main_v109) : IVec S4x20x845 32) (ix3 b k p) = BitVec.ofNat 32 (σ b k p).val)
include hσ

theorem idx_image (b : Fin 4) (k : Fin 20) (p : Fin 845) :
    (after hostOps0_4 U (Proc.devRef .tc main_v127) : IVec S4x20x845x2 32) (ix4 b k p 0) = BitVec.ofNat 32 b.val := by
  after_reads_simp
  pointwise
  exact wrap _ (by omega) _

theorem idx_place (b : Fin 4) (k : Fin 20) (p : Fin 845) :
    (after hostOps0_4 U (Proc.devRef .tc main_v127) : IVec S4x20x845x2 32) (ix4 b k p 1) = BitVec.ofNat 32 (σ b k p).val := by
  after_reads_simp
  pointwise
  rw [hσ]
  exact wrap _ (by omega) _

/-- The boxes in their order. -/
theorem box_sorted (b : Fin 4) (k : Fin 20) (p : Fin 845) (q : Fin 4) :
    (after hostOps0_4 U (Proc.devRef .tc main_v128) : FVec Ideal S4x20x845x4 .f32) (ix4 b k p q)
      = (U (Proc.devRef .tc main_v102) : FVec Ideal S4x845x4 .f32) (ix3 b (σ b k p) q) := by
  have h0 := idx_image U σ hσ b k p
  have h1 := idx_place U σ hσ b k p
  have h : (after hostOps0_4 U (Proc.devRef .tc main_v128) : FVec Ideal S4x20x845x4 .f32)
      = Host.gather gather_S4x845x4_S4x20x845x2_S4x20x845x4_3_01_n_n_01_3_114 (U (Proc.devRef .tc main_v102) : FVec Ideal S4x845x4 .f32)
        (after hostOps0_4 U (Proc.devRef .tc main_v127) : IVec S4x20x845x2 32) := by
    after_reads_simp
  rw [h]
  exact gather_box _ _ b k p q b (σ b k p) h0 h1

/-- The overlap of the boxes at two places of the order. -/
theorem overlap_sorted (b : Fin 4) (k : Fin 20) (p q : Fin 845) :
    (after hostOps0_4 U (Proc.devRef .tc main_v179) : FVec Ideal S4x20x845x845 .f32) (ix4 b k p q)
      = Spec.iou (fun n d => (U (Proc.devRef .tc main_v102) : FVec Ideal S4x845x4 .f32) (ix3 b n d)) (σ b k p) (σ b k q) := by
  have h := box_sorted U σ hσ b k
  generalize (U (Proc.devRef .tc main_v102) : FVec Ideal S4x845x4 .f32) = B at h ⊢
  revert h
  after_reads_simp
  generalize Host.gather gather_S4x845x4_S4x20x845x2_S4x20x845x4_3_01_n_n_01_3_114 _ _ = g
  intro h
  pointwise
  simp only [h]
  rfl

end Sorted

end Cert.Proof.RI

end
-- ==== Proof.RI.Trip.lean ====
/-
  One trip of the reference's loop, element by element: the box at the trip's place, if it is still kept, takes out the later
  boxes it overlaps.
-/
module

public import proofs.«01_k».proof.Proof.RI.Entry

@[expose] public section

set_option maxRecDepth 16384

noncomputable section

namespace Cert.Proof.RI

open Cert.ReferenceIdeal Cert.ReferenceIdeal.Gen Cert.ReferenceIdeal.Value
open Idealize.ShloMosaic Idealize.ShloMosaic.TcCoe
open Idealize.ShloMosaic.StableHlo
open scoped Classical

section Slice

variable {α : Type}

/-- A row of the overlaps cut out at place `t`, -/
theorem slice_row (x : S4x20x845x845.Idx → α) (start : Fin 4 → ℤ) (h : S4x20x845x845.Slices (fun _ => 0) S4x20x1x845) (t : Fin 845)
    (e0 : start 0 = 0) (e1 : start 1 = 0) (e2 : start 2 = t.val) (e3 : start 3 = 0) :
    Host.dynamicSlice S4x20x1x845 x start h = fun j => x (ix4 (j 0) (j 1) t (j 3)) := by
  have hk : S4x20x845x845.Slices ![0, 0, t.val, 0] S4x20x1x845 :=
    ⟨rfl, Fin.cases (show 0 + 4 ≤ 4 by omega) (Fin.cases (show 0 + 20 ≤ 20 by omega) (Fin.cases (show t.val + 1 ≤ 845 by omega)
      (Fin.cases (show 0 + 845 ≤ 845 by omega) fun a => a.elim0)))⟩
  rw [WordCmp.dynamicSlice_eq_extract S4x20x1x845 x start h ![0, 0, t.val, 0] hk
    (Fin.cases e0 (Fin.cases e1 (Fin.cases e2 (Fin.cases e3 fun a => a.elim0))))]
  funext j
  unfold extractStridedSlice
  refine congrArg x (funext fun a => Fin.ext ?_)
  revert a
  refine Fin.cases ?_ (Fin.cases ?_ (Fin.cases ?_ (Fin.cases ?_ fun a => a.elim0)))
  · exact Nat.zero_add _
  · exact Nat.zero_add _
  · have : (j 2).val < 1 := (j 2).isLt
    show t.val + (j 2).val = t.val
    omega
  · exact Nat.zero_add _

/-- and one column of the kept boxes. -/
theorem slice_col (x : S4x20x845.Idx → α) (start : Fin 3 → ℤ) (h : S4x20x845.Slices (fun _ => 0) S4x20x1) (t : Fin 845)
    (e0 : start 0 = 0) (e1 : start 1 = 0) (e2 : start 2 = t.val) :
    Host.dynamicSlice S4x20x1 x start h = fun j => x (ix3 (j 0) (j 1) t) := by
  have hk : S4x20x845.Slices ![0, 0, t.val] S4x20x1 :=
    ⟨rfl, Fin.cases (show 0 + 4 ≤ 4 by omega) (Fin.cases (show 0 + 20 ≤ 20 by omega) (Fin.cases (show t.val + 1 ≤ 845 by omega) fun a => a.elim0))⟩
  rw [WordCmp.dynamicSlice_eq_extract S4x20x1 x start h ![0, 0, t.val] hk (Fin.cases e0 (Fin.cases e1 (Fin.cases e2 fun a => a.elim0)))]
  funext j
  unfold extractStridedSlice
  refine congrArg x (funext fun a => Fin.ext ?_)
  revert a
  refine Fin.cases ?_ (Fin.cases ?_ (Fin.cases ?_ fun a => a.elim0))
  · exact Nat.zero_add _
  · exact Nat.zero_add _
  · have : (j 2).val < 1 := (j 2).isLt
    show t.val + (j 2).val = t.val
    omega

end Slice

/-- A truth as a bit. -/
abbrev bit (p : Prop) : BitVec 1 := BitVec.ofBool (decide p)

theorem bit_true {p : Prop} (h : p) : bit p = 1#1 := by unfold bit; rw [decide_eq_true h]; rfl
theorem bit_false {p : Prop} (h : ¬p) : bit p = 0#1 := by unfold bit; rw [decide_eq_false h]; rfl

theorem later (p t : Fin 845) : IntOp.cmpi .sgt (BitVec.ofNat 32 p.val) (BitVec.ofNat 32 t.val) = bit (t < p) := by
  have h : IntOp.cmpi .sgt (BitVec.ofNat 32 p.val) (BitVec.ofNat 32 t.val) = BitVec.ofBool (decide ((BitVec.ofNat 32 t.val).toInt < (BitVec.ofNat 32 p.val).toInt)) := rfl
  rw [h, word_nat _ (by omega), word_nat _ (by omega)]
  have e : ((t.val : ℤ) < p.val) ↔ t < p := by rw [Int.ofNat_lt]; rfl
  by_cases hp : t < p
  · rw [bit_true hp, decide_eq_true (e.mpr hp)]; rfl
  · rw [bit_false hp, decide_eq_false (fun h' => hp (e.mp h'))]; rfl

theorem take_out (a b r c : Prop) [Decidable b] :
    IntOp.andi (bit a) (~~~IntOp.andi (IntOp.andi (BitVec.ofBool (decide b)) (bit r)) (bit c)) = bit (a ∧ ¬((b ∧ r) ∧ c)) := by
  by_cases ha : a <;> by_cases hb : b <;> by_cases hr : r <;> by_cases hc : c <;> simp [ha, hb, hr, hc, IntOp.andi, bit]

section Trip

variable (V : Valuation τ sig (Elt Ideal)) (t : Fin 845)
  (h1 : ∀ p : Fin 845, (V (Proc.devRef .tc main_v182_1) : IVec S845 32) (ix1 p) = BitVec.ofNat 32 p.val)
  (h3 : (V (Proc.devRef .tc main_v182_3) : IVec S_ 32) = fun _ => BitVec.ofNat 32 t.val)
  (K : Fin 4 → Fin 20 → Fin 845 → Prop)
  (h4 : ∀ b k p, (V (Proc.devRef .tc main_v182_4) : IVec S4x20x845 1) (ix3 b k p) = bit (K b k p))
include h1 h3 h4

theorem keep_trip (b : Fin 4) (k : Fin 20) (p : Fin 845) : (step_main_v182_4 V : IVec S4x20x845 1) (ix3 b k p)
    = bit (Greedy.trip (fun p q => Spec.num 0x3EE66666#32 < (V (Proc.devRef .tc main_v182_0) : FVec Ideal S4x20x845x845 .f32) (ix4 b k p q)) t (K b k) p) := by
  have hw : ∀ w : IVec S_ 32, (select (cmpi .slt (V (Proc.devRef .tc main_v182_3) : IVec S_ 32) (constantI S_ 32 0#32)) w
      (V (Proc.devRef .tc main_v182_3) : IVec S_ 32) (Shape.Idx.first h_S_)).toInt = t.val := by
    intro w
    rw [h3]
    show (Scalar.select (IntOp.cmpi .slt (BitVec.ofNat 32 t.val) 0#32) _ (BitVec.ofNat 32 t.val)).toInt = t.val
    rw [wrap _ (by omega), word_nat _ (by omega)]
  unfold step_main_v182_4
  rw [slice_row _ _ _ t rfl rfl (hw _) rfl, slice_col _ _ _ t rfl rfl (hw _), h3]
  generalize (V (Proc.devRef .tc main_v182_0) : FVec Ideal S4x20x845x845 .f32) = T
  simp only [id_eq]
  pointwise
  rw [h4, h4, h1, later p t]
  show _ = bit (K b k p ∧ ¬((Ideal.ofBits .f32 0x3EE66666#32 < (T : FVec Ideal S4x20x845x845 .f32) (ix4 b k t p) ∧ t < p) ∧ K b k t))
  generalize Ideal.ofBits .f32 0x3EE66666#32 = u
  generalize (T : FVec Ideal S4x20x845x845 .f32) (ix4 b k t p) = v
  exact take_out _ (u < v) _ _

end Trip

end Cert.Proof.RI

end
-- ==== Proof.RI.Loop.lean ====
/-
  The reference's whole loop, element by element: after `n` trips the kept boxes are those of `n` trips over the items in
  their order.
-/
module

public import proofs.«01_k».proof.Proof.RI.Trip

@[expose] public section

set_option maxRecDepth 16384

noncomputable section

namespace Cert.Proof.RI

open Cert.ReferenceIdeal Cert.ReferenceIdeal.Gen Cert.ReferenceIdeal.Value
open Idealize.ShloMosaic Idealize.ShloMosaic.TcCoe
open Idealize.ShloMosaic.StableHlo
open scoped Classical

/-- The boxes at two places overlap by more than the threshold, as the loop reads it. -/
abbrev over (E : Valuation τ sig (Elt Ideal)) (b : Fin 4) (k : Fin 20) (p q : Fin 845) : Prop :=
  Spec.num 0x3EE66666#32 < (E (Proc.devRef .tc main_v182_0) : FVec Ideal S4x20x845x845 .f32) (ix4 b k p q)

section Iterate

variable (E : Valuation τ sig (Elt Ideal))
  (h1 : ∀ p : Fin 845, (E (Proc.devRef .tc main_v182_1) : IVec S845 32) (ix1 p) = BitVec.ofNat 32 p.val)
  (h3 : (E (Proc.devRef .tc main_v182_3) : IVec S_ 32) = fun _ => 0#32)
  (h4 : ∀ b k p, (E (Proc.devRef .tc main_v182_4) : IVec S4x20x845 1) (ix3 b k p) = 1#1)
include h1 h3 h4

theorem loop_inv : ∀ n : ℕ, n ≤ 845 →
    (STEP^[n] E) (Proc.devRef .tc main_v182_0) = E (Proc.devRef .tc main_v182_0)
    ∧ (STEP^[n] E) (Proc.devRef .tc main_v182_1) = E (Proc.devRef .tc main_v182_1)
    ∧ ((STEP^[n] E) (Proc.devRef .tc main_v182_3) : IVec S_ 32) = (fun _ => BitVec.ofNat 32 n)
    ∧ ∀ b k p, ((STEP^[n] E) (Proc.devRef .tc main_v182_4) : IVec S4x20x845 1) (ix3 b k p) = bit (Greedy.trips (over E b k) n p)
  | 0, _ => ⟨rfl, rfl, h3, fun b k p => (h4 b k p).trans (bit_true trivial).symm⟩
  | n + 1, hn => by
    obtain ⟨i0, i1, i3, i4⟩ := loop_inv n (Nat.le_of_succ_le hn)
    rw [Function.iterate_succ_apply']
    generalize STEP^[n] E = V at i0 i1 i3 i4 ⊢
    refine ⟨(STEP_main_v182_0 V).trans i0, (STEP_main_v182_1 V).trans i1, ?_, fun b k p => ?_⟩
    · rw [STEP_main_v182_3]
      unfold step_main_v182_3
      rw [i3]
      funext j
      show BitVec.ofNat 32 n + 1#32 = BitVec.ofNat 32 (n + 1)
      rw [BitVec.ofNat_add]
    · rw [STEP_main_v182_4]
      have i1' : ∀ p : Fin 845, (V (Proc.devRef .tc main_v182_1) : IVec S845 32) (ix1 p) = BitVec.ofNat 32 p.val := by
        intro p; rw [i1]; exact h1 p
      rw [keep_trip V ⟨n, hn⟩ i1' i3 (fun b k => Greedy.trips (over E b k) n) i4 b k p, i0]
      refine congrArg bit ?_
      show _ = (if h : n < 845 then Greedy.trip (over E b k) ⟨n, h⟩ (Greedy.trips (over E b k) n) p else _)
      rw [dif_pos (show n < 845 from hn)]

end Iterate

section Start

variable (U : Valuation τ sig (Elt Ideal))

theorem start_overlap : after hostOps0_4 U (Proc.devRef .tc main_v182_0) = after hostOps0_4 U (Proc.devRef .tc main_v179) := by
  after_reads_simp
  rfl
theorem start_place (p : Fin 845) : (after hostOps0_4 U (Proc.devRef .tc main_v182_1) : IVec S845 32) (ix1 p) = BitVec.ofNat 32 p.val := by
  after_reads_simp
  simp only [id_eq]
  pointwise
theorem start_count : (after hostOps0_4 U (Proc.devRef .tc main_v182_3) : IVec S_ 32) = fun _ => 0#32 := by
  after_reads_simp
  rfl
theorem start_kept (b : Fin 4) (k : Fin 20) (p : Fin 845) :
    (after hostOps0_4 U (Proc.devRef .tc main_v182_4) : IVec S4x20x845 1) (ix3 b k p) = 1#1 := by
  after_reads_simp
  simp only [id_eq]
  pointwise
theorem start_image (b : Fin 4) : (after hostOps0_4 U (Proc.devRef .tc main_v111) : IVec S4x1x1 32) (ix3 b 0 0) = BitVec.ofNat 32 b.val := by
  after_reads_simp
  pointwise
theorem start_class (k : Fin 20) : (after hostOps0_4 U (Proc.devRef .tc main_v113) : IVec S1x20x1 32) (ix3 0 k 0) = BitVec.ofNat 32 k.val := by
  after_reads_simp
  pointwise

/-- The order the sort leaves. -/
theorem start_order (W : Valuation τ sig (Elt Ideal)) (b : Fin 4) (k : Fin 20) (p : Fin 845) :
    (after hostOps0_3 (after hostOps0_2 W) (Proc.devRef .tc main_v109) : IVec S4x20x845 32) (ix3 b k p)
      = BitVec.ofNat 32 (place (Host.negf (F := Ideal) (W (Proc.devRef .tc main_v107) : FVec Ideal S4x20x845 .f32)) b k p).val := by
  rw [← sorted_word]
  after_reads_simp
  rfl

end Start

end Cert.Proof.RI

end
-- ==== Proof.RI.Post.lean ====
/-
  The reference's last stretches, element by element: the kept scores, read in their order and put back where they came from.
-/
module

public import proofs.«01_k».proof.Proof.RI.Trip
public import proofs.«01_k».proof.Proof.RefRun

@[expose] public section

set_option maxRecDepth 16384

noncomputable section

namespace Cert.Proof.RI

open Cert.ReferenceIdeal Cert.ReferenceIdeal.Gen Cert.ReferenceIdeal.Value
open Idealize.ShloMosaic Idealize.ShloMosaic.TcCoe
open Idealize.ShloMosaic.StableHlo
open scoped Classical

section Post

variable (X : Valuation τ sig (Elt Ideal)) (σ : Fin 4 → Fin 20 → Fin 845 → Fin 845)
  (hb : ∀ b : Fin 4, (X (Proc.devRef .tc main_v111) : IVec S4x1x1 32) (ix3 b 0 0) = BitVec.ofNat 32 b.val)
  (hk : ∀ k : Fin 20, (X (Proc.devRef .tc main_v113) : IVec S1x20x1 32) (ix3 0 k 0) = BitVec.ofNat 32 k.val)
  (hσ : ∀ b k p, (X (Proc.devRef .tc main_v109) : IVec S4x20x845 32) (ix3 b k p) = BitVec.ofNat 32 (σ b k p).val)

include hb in
theorem read_image (b : Fin 4) (k : Fin 20) (p : Fin 845) :
    (after hostOps0_5 X (Proc.devRef .tc main_v203) : IVec S4x20x845x3 32) (ix4 b k p 0) = BitVec.ofNat 32 b.val := by
  after_reads_simp
  pointwise
  after_reads_simp
  pointwise
  rw [hb]
  exact wrap _ (by omega) _
include hk in
theorem read_class (b : Fin 4) (k : Fin 20) (p : Fin 845) :
    (after hostOps0_5 X (Proc.devRef .tc main_v203) : IVec S4x20x845x3 32) (ix4 b k p 1) = BitVec.ofNat 32 k.val := by
  after_reads_simp
  pointwise
  after_reads_simp
  pointwise
  rw [hk]
  exact wrap _ (by omega) _
include hσ in
theorem read_place (b : Fin 4) (k : Fin 20) (p : Fin 845) :
    (after hostOps0_5 X (Proc.devRef .tc main_v203) : IVec S4x20x845x3 32) (ix4 b k p 2) = BitVec.ofNat 32 (σ b k p).val := by
  after_reads_simp
  pointwise
  after_reads_simp
  pointwise
  rw [hσ]
  exact wrap _ (by omega) _

include hb in
theorem write_image (b : Fin 4) (k : Fin 20) (p : Fin 845) :
    (after hostOps0_7 X (Proc.devRef .tc main_v227) : IVec S4x20x845x3 32) (ix4 b k p 0) = BitVec.ofNat 32 b.val := by
  after_reads_simp
  pointwise
  after_reads_simp
  pointwise
  rw [hb]
  exact wrap _ (by omega) _
include hk in
theorem write_class (b : Fin 4) (k : Fin 20) (p : Fin 845) :
    (after hostOps0_7 X (Proc.devRef .tc main_v227) : IVec S4x20x845x3 32) (ix4 b k p 1) = BitVec.ofNat 32 k.val := by
  after_reads_simp
  pointwise
  after_reads_simp
  pointwise
  rw [hk]
  exact wrap _ (by omega) _
include hσ in
theorem write_place (b : Fin 4) (k : Fin 20) (p : Fin 845) :
    (after hostOps0_7 X (Proc.devRef .tc main_v227) : IVec S4x20x845x3 32) (ix4 b k p 2) = BitVec.ofNat 32 (σ b k p).val := by
  after_reads_simp
  pointwise
  after_reads_simp
  pointwise
  rw [hσ]
  exact wrap _ (by omega) _

include hb hk hσ

/-- The scores in their order. -/
theorem score_sorted (b : Fin 4) (k : Fin 20) (p : Fin 845) :
    (after hostOps0_5 X (Proc.devRef .tc main_v204) : FVec Ideal S4x20x845 .f32) (ix3 b k p)
      = (X (Proc.devRef .tc main_v107) : FVec Ideal S4x20x845 .f32) (ix3 b k (σ b k p)) := by
  have h0 := read_image X hb b k p
  have h1 := read_class X hk b k p
  have h2 := read_place X σ hσ b k p
  have h : (after hostOps0_5 X (Proc.devRef .tc main_v204) : FVec Ideal S4x20x845 .f32)
      = Host.gather gather_S4x20x845_S4x20x845x3_S4x20x845_n_012_n_n_012_3_111 (X (Proc.devRef .tc main_v107) : FVec Ideal S4x20x845 .f32)
        (after hostOps0_5 X (Proc.devRef .tc main_v203) : IVec S4x20x845x3 32) := by
    after_reads_simp
  rw [h]
  exact gather_score _ _ b k p b k (σ b k p) h0 h1 h2

/-- The scores in their place, where every update lands somewhere of its own. -/
theorem put_back (hi : ∀ b k, Function.Injective (σ b k)) (b : Fin 4) (k : Fin 20) (p : Fin 845) :
    (after hostOps0_7 X (Proc.devRef .tc main_v229) : FVec Ideal S4x845x20 .f32) (ix3 b (σ b k p) k)
      = (X (Proc.devRef .tc main_v205) : FVec Ideal S4x20x845 .f32) (ix3 b k p) := by
  have h : (after hostOps0_7 X (Proc.devRef .tc main_v229) : FVec Ideal S4x845x20 .f32)
      = transpose S4x845x20 [0, 2, 1] (Host.scatter scatter_S4x20x845_S4x20x845x3_S4x20x845_n_012_012_3 (fun _ w => w)
          (after hostOps0_7 X (Proc.devRef .tc main_v206) : FVec Ideal S4x20x845 .f32)
          (after hostOps0_7 X (Proc.devRef .tc main_v227) : IVec S4x20x845x3 32)
          (X (Proc.devRef .tc main_v205) : FVec Ideal S4x20x845 .f32)) transposes_S4x20x845_S4x845x20_0_2_1 := by
    after_reads_simp
    rfl
  rw [h]
  have e : ∀ v : FVec Ideal S4x20x845 .f32,
      transpose S4x845x20 [0, 2, 1] v transposes_S4x20x845_S4x845x20_0_2_1 (ix3 b (σ b k p) k) = v (ix3 b k (σ b k p)) := by
    intro v
    pointwise
  rw [e]
  exact scatter_score _ _ _ σ hi (write_image X hb) (write_class X hk) (write_place X σ hσ) b k p

end Post

/-- A score that is not kept is nothing. -/
theorem kept_score (X : Valuation τ sig (Elt Ideal)) (b : Fin 4) (k : Fin 20) (p : Fin 845) :
    (after hostOps0_6 (after hostOps0_5 X) (Proc.devRef .tc main_v205) : FVec Ideal S4x20x845 .f32) (ix3 b k p)
      = Scalar.select ((X (Proc.devRef .tc main_v182_4) : IVec S4x20x845 1) (ix3 b k p))
          ((after hostOps0_5 X (Proc.devRef .tc main_v204) : FVec Ideal S4x20x845 .f32) (ix3 b k p)) (0 : EReal) := by
  have hz : Ideal.ofBits FTy.f32 0x00000000#32 = 0 := by simp [Ideal.ofBits, Ideal.ieee]
  have h : (after hostOps0_6 (after hostOps0_5 X) (Proc.devRef .tc main_v205) : FVec Ideal S4x20x845 .f32)
      = select (X (Proc.devRef .tc main_v182_4) : IVec S4x20x845 1) (after hostOps0_5 X (Proc.devRef .tc main_v204) : FVec Ideal S4x20x845 .f32)
          (fun _ => Ideal.ofBits FTy.f32 0x00000000#32) := by
    after_reads_simp
    rfl
  rw [h, hz]
  rfl

end Cert.Proof.RI

end
-- ==== Proof.RI.Final.lean ====
/-
  The reference's two results, element by element: the boxes, and each class's scores where its greedy choice keeps the box.
-/
module

public import proofs.«01_k».proof.Proof.RI.Loop
public import proofs.«01_k».proof.Proof.RI.Post

@[expose] public section

set_option maxRecDepth 16384

noncomputable section

namespace Cert.Proof.RI

open Cert.ReferenceIdeal Cert.ReferenceIdeal.Gen Cert.ReferenceIdeal.Value
open Idealize.ShloMosaic Idealize.ShloMosaic.TcCoe
open Idealize.ShloMosaic.StableHlo
open scoped Classical

section Order

variable (V : Valuation τ sig (Elt Ideal))

/-- The contents when the scores are computed, when they are sorted, and when the loop begins. -/
abbrev scored : Valuation τ sig (Elt Ideal) := after hostOps0_1 (after hostOps0 V)
abbrev sorted : Valuation τ sig (Elt Ideal) := after hostOps0_3 (after hostOps0_2 (scored V))
abbrev entry : Valuation τ sig (Elt Ideal) := after hostOps0_4 (sorted V)

/-- The scores with their signs turned, which the sort puts in ascending order, and the box at each place of that order. -/
def turned : FVec Ideal S4x20x845 .f32 := Host.negf (F := Ideal) (scored V (Proc.devRef .tc main_v107) : FVec Ideal S4x20x845 .f32)
def ord (b : Fin 4) (k : Fin 20) : Fin 845 → Fin 845 := place (turned V) b k

abbrev boxes (b : Fin 4) : Fin 845 → Fin 4 → EReal := Spec.box (infoOf V (ix2 b 0)) (infoOf V (ix2 b 1)) (chans (featOf V) b)
abbrev scores (b : Fin 4) (k : Fin 20) : Fin 845 → EReal := Spec.score (chans (featOf V) b) k

theorem ord_bij (b : Fin 4) (k : Fin 20) : Function.Bijective (ord V b k) := place_bij _ b k

theorem ord_word (b : Fin 4) (k : Fin 20) (p : Fin 845) :
    (sorted V (Proc.devRef .tc main_v109) : IVec S4x20x845 32) (ix3 b k p) = BitVec.ofNat 32 (ord V b k p).val := start_order _ b k p

theorem ord_before_of (b : Fin 4) (k : Fin 20) {p q : Fin 845} (h : p < q) : Spec.before (scores V b k) (ord V b k p) (ord V b k q) := by
  have hn : ∀ n, turned V (ix3 b k n) = -(scores V b k n) :=
    fun n => congrArg (fun t : EReal => -t) (score_at V b k n)
  have hl := place_lex (turned V) b k h
  change Lex _ (ord V b k p) (ord V b k q) at hl
  generalize ord V b k p = i at hl ⊢
  generalize ord V b k q = j at hl ⊢
  unfold Lex at hl
  simp only [hn] at hl
  rcases hl with hl | ⟨e, hl⟩
  · exact .inl (EReal.neg_lt_neg_iff.mp hl)
  · exact .inr ⟨neg_inj.mp e, hl⟩

theorem ord_before (b : Fin 4) (k : Fin 20) (p q : Fin 845) : p < q ↔ Spec.before (scores V b k) (ord V b k p) (ord V b k q) := by
  refine ⟨ord_before_of V b k, fun h => ?_⟩
  rcases lt_trichotomy p q with l | e | l
  · exact l
  · exact absurd h (by rw [e]; exact fun h => Spec.before_asymm _ h h)
  · exact absurd (ord_before_of V b k l) (Spec.before_asymm _ h)

theorem sorted_box (b : Fin 4) : (fun n d => (sorted V (Proc.devRef .tc main_v102) : FVec Ideal S4x845x4 .f32) (ix3 b n d)) = boxes V b := by
  funext n d
  unfold sorted scored
  rw [after_of_writes_sub _ _ hostOps0_3_writes (by decide), after_of_writes_sub _ _ hostOps0_2_writes (by decide),
    after_of_writes_sub _ _ hostOps0_1_writes (by decide)]
  exact box_at V b n d

theorem over_iff (b : Fin 4) (k : Fin 20) (p q : Fin 845) : over (entry V) b k p q ↔ Spec.hit (boxes V b) (ord V b k p) (ord V b k q) := by
  unfold over Spec.hit entry
  rw [start_overlap, overlap_sorted (sorted V) (ord V) (ord_word V) b k p q, sorted_box]

/-- What the loop leaves of a class's boxes is its greedy choice. -/
theorem kept_exit (b : Fin 4) (k : Fin 20) {G : Fin 845 → Prop} (hG : Spec.Chosen (boxes V b) (scores V b k) G) (p : Fin 845) :
    ((STEP^[845] (entry V)) (Proc.devRef .tc main_v182_4) : IVec S4x20x845 1) (ix3 b k p) = bit (G (ord V b k p)) := by
  rw [(loop_inv (entry V) (start_place _) (start_count _) (start_kept _) 845 le_rfl).2.2.2 b k p]
  exact congrArg bit (propext (Greedy.survives_of_order (hit := over (entry V) b k) (before := Spec.before (scores V b k)) (hit' := Spec.hit (boxes V b)) (ord V b k) (ord_bij V b k) (ord_before V b k) (over_iff V b k) hG
    (inferInstance : WellFoundedLT (Fin 845)).wf p))

end Order

section Leave

variable (V A : Valuation τ sig (Elt Ideal))
  (hs : A (Proc.devRef .tc main_v107) = entry V (Proc.devRef .tc main_v107))
  (ho : A (Proc.devRef .tc main_v109) = entry V (Proc.devRef .tc main_v109))
  (hb : A (Proc.devRef .tc main_v111) = entry V (Proc.devRef .tc main_v111))
  (hk : A (Proc.devRef .tc main_v113) = entry V (Proc.devRef .tc main_v113))
  (hl : A (Proc.devRef .tc main_v182_4) = (STEP^[845] (entry V)) (Proc.devRef .tc main_v182_4))
include hs ho hb hk hl

theorem prob_leave (b : Fin 4) (k : Fin 20) {G : Fin 845 → Prop} (hG : Spec.Chosen (boxes V b) (scores V b k) G) (n : Fin 845) :
    (afterL postI A (Proc.devRef .tc main_v229) : FVec Ideal S4x845x20 .f32) (ix3 b n k) = if G n then scores V b k n else 0 := by
  have fb : ∀ b : Fin 4, (A (Proc.devRef .tc main_v111) : IVec S4x1x1 32) (ix3 b 0 0) = BitVec.ofNat 32 b.val := by
    intro b; rw [hb]; exact start_image _ b
  have fk : ∀ k : Fin 20, (A (Proc.devRef .tc main_v113) : IVec S1x20x1 32) (ix3 0 k 0) = BitVec.ofNat 32 k.val := by
    intro k; rw [hk]; exact start_class _ k
  have fo : ∀ b k p, (A (Proc.devRef .tc main_v109) : IVec S4x20x845 32) (ix3 b k p) = BitVec.ofNat 32 (ord V b k p).val := by
    intro b k p
    rw [ho]
    unfold entry
    rw [after_of_writes_sub _ _ hostOps0_4_writes (by decide)]
    exact ord_word V b k p
  have fs : ∀ n, (A (Proc.devRef .tc main_v107) : FVec Ideal S4x20x845 .f32) (ix3 b k n) = scores V b k n := by
    intro n
    rw [hs]
    unfold entry sorted
    rw [after_of_writes_sub _ _ hostOps0_4_writes (by decide), after_of_writes_sub _ _ hostOps0_3_writes (by decide),
      after_of_writes_sub _ _ hostOps0_2_writes (by decide)]
    exact score_at V b k n
  have fl : ∀ p, (A (Proc.devRef .tc main_v182_4) : IVec S4x20x845 1) (ix3 b k p) = bit (G (ord V b k p)) := by
    intro p; rw [hl]; exact kept_exit V b k hG p
  obtain ⟨p, rfl⟩ := (ord_bij V b k).2 n
  simp only [postI, afterL_cons, afterL_nil]
  have kb : after hostOps0_6 (after hostOps0_5 A) (Proc.devRef .tc main_v111) = A (Proc.devRef .tc main_v111) := by
    rw [after_of_writes_sub _ _ post6_writes (by decide), after_of_writes_sub _ _ post5_writes (by decide)]
  have kk : after hostOps0_6 (after hostOps0_5 A) (Proc.devRef .tc main_v113) = A (Proc.devRef .tc main_v113) := by
    rw [after_of_writes_sub _ _ post6_writes (by decide), after_of_writes_sub _ _ post5_writes (by decide)]
  have ko : after hostOps0_6 (after hostOps0_5 A) (Proc.devRef .tc main_v109) = A (Proc.devRef .tc main_v109) := by
    rw [after_of_writes_sub _ _ post6_writes (by decide), after_of_writes_sub _ _ post5_writes (by decide)]
  rw [put_back (after hostOps0_6 (after hostOps0_5 A)) (ord V) (fun b => (congrFun kb _).trans (fb b)) (fun k => (congrFun kk _).trans (fk k))
    (fun b k p => (congrFun ko _).trans (fo b k p)) (fun b k => (ord_bij V b k).1) b k p,
    kept_score, score_sorted A (ord V) fb fk fo b k p, fl, fs]
  by_cases g : G (ord V b k p)
  · rw [bit_true g, if_pos g]; rfl
  · rw [bit_false g, if_neg g]; rfl

end Leave

section Results

variable (m : (ℓ : Loc nD τ sig) → Buf (Elt Ideal) ℓ) (c : Dev nD)

abbrev feat : FVec Ideal S4x125x13x13 .f32 := m ((c.tc : Thread nD τ).loc main_arg0)
abbrev info : FVec Ideal S4x2 .f32 := m ((c.tc : Thread nD τ).loc main_arg1)

/-- The boxes' result. -/
theorem finalBox_at (b : Fin 4) (n : Fin 845) (q : Fin 4) : (finalBox m c : FVec Ideal S4x845x4 .f32) (ix3 b n q)
    = Spec.box (info m c (ix2 b 0)) (info m c (ix2 b 1)) (chans (feat m c) b) n q := by
  unfold finalBox
  simp only [entryContents, preI, afterL_cons, afterL_nil]
  rw [after_of_writes_sub _ _ hostOps0_4_writes (by decide), after_of_writes_sub _ _ hostOps0_3_writes (by decide),
    after_of_writes_sub _ _ hostOps0_2_writes (by decide), after_of_writes_sub _ _ hostOps0_1_writes (by decide)]
  exact box_at _ b n q

/-- The scores' result. -/
theorem finalProb_at (b : Fin 4) (k : Fin 20) {G : Fin 845 → Prop}
    (hG : Spec.Chosen (Spec.box (info m c (ix2 b 0)) (info m c (ix2 b 1)) (chans (feat m c) b)) (Spec.score (chans (feat m c) b) k) G)
    (n : Fin 845) : (finalProb m c : FVec Ideal S4x845x20 .f32) (ix3 b n k) = if G n then Spec.score (chans (feat m c) b) k n else 0 := by
  have e := atK_agree m c 845
  have h4 : atExit m c (Proc.devRef .tc main_v182_4) = (STEP^[845] (entryContents preI m c)) (Proc.devRef .tc main_v182_4) :=
    (cond_keeps (atK m 845 c) main_v182_4 (by decide)).trans (e main_v182_4 (by decide))
  have h0 := atExit_keep m (r := main_v107) (by decide) c
  have h1 := atExit_keep m (r := main_v109) (by decide) c
  have h2 := atExit_keep m (r := main_v111) (by decide) c
  have h3 := atExit_keep m (r := main_v113) (by decide) c
  unfold finalProb
  simp only [entryContents, preI, afterL_cons, afterL_nil] at h0 h1 h2 h3 h4
  exact prob_leave _ _ h0 h1 h2 h3 h4 b k hG n

end Results

end Cert.Proof.RI

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefRun
public import proofs.«01_k».proof.Proof.K.Whole
public import proofs.«01_k».proof.Proof.K.HaltsBits
public import proofs.«01_k».proof.Proof.KI.Whole
public import proofs.«01_k».proof.Proof.KI.HaltsIdeal
public import proofs.«01_k».proof.Proof.KI.Final
public import proofs.«01_k».proof.Proof.RI.Final

@[expose] public section

namespace Cert.Proof

open Idealize.ShloMosaic Idealize.SL.Sem
open scoped Classical

theorem quiet_kernel : Cert.quiescent_Kernel := fun m g _ =>
  (θ_run _ _ ⟨m, fun _ => 0, g⟩).mono (fun _ h => ⟨fun c => ⟨(h.1 c).1, (h.1 c).2.1⟩, h.2⟩) (K.run m g)

theorem quiet_ideal : Cert.quiescent_KernelIdeal := fun m g _ =>
  (θ_run _ _ ⟨m, fun _ => 0, g⟩).mono (fun _ h => ⟨fun c => ⟨(h.1 c).1, (h.1 c).2.1⟩, h.2⟩) (KI.run m g)

theorem quiet_reference : Cert.quiescent_ReferenceIdeal := fun m g _ =>
  (θ_run _ _ ⟨m, fun _ => 0, g⟩).mono (fun _ h => ⟨fun c => ⟨(h.1 c).1, (h.1 c).2.1⟩, h.2⟩) (RI.run m g)

section Same

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : RI.feat m' c = KI.feat m c) (h1 : RI.info m' c = KI.info m c)
include h0 h1

/-- The two programs' boxes are the same, -/
theorem same_box : (RI.finalBox m' c : FVec Ideal Cert.KernelIdeal.S4x845x4 .f32) = KI.finalBox m c := by
  refine funext fun j => ?_
  rw [← ix3_eta j]
  refine (RI.finalBox_at m' c _ _ _).trans ?_
  rw [h0, h1]
  exact (KI.finalBox_at m c _ _ _).symm

/-- and so are their scores. -/
theorem same_prob : (RI.finalProb m' c : FVec Ideal Cert.KernelIdeal.S4x845x20 .f32) = KI.finalProb m c := by
  refine funext fun j => ?_
  rw [← ix3_eta j]
  obtain ⟨G, hG, h⟩ := KI.finalProb_at m c (j 0) (j 2)
  refine (RI.finalProb_at m' c (j 0) (j 2) (G := G) ?_ (j 1)).trans ?_
  · rw [h0, h1]; exact hG
  · rw [h0]; exact (h (j 1)).symm

end Same

theorem algebraic : Cert.algebraic_KernelIdeal_ReferenceIdeal := fun m g m' g' _ h =>
  ⟨fun c => KI.finalProb m c, fun c => KI.finalBox m c,
    (θ_run _ _ ⟨m, fun _ => 0, g⟩).mono (fun _ r c => ⟨(r.1 c).2.2.1, (r.1 c).2.2.2, (r.1 c).1, (r.1 c).2.1⟩) (KI.run m g),
    (θ_run _ _ ⟨m', fun _ => 0, g'⟩).mono (fun _ r c => ⟨(r.1 c).2.2.1.trans (same_prob m m' c (h c).1 (h c).2),
      (r.1 c).2.2.2.trans (same_box m m' c (h c).1 (h c).2), (r.1 c).1, (r.1 c).2.1⟩) (RI.run m' g')⟩

theorem claim : Cert.Claim := ⟨Cert.Kernel.Gen.facts, Cert.KernelIdeal.Gen.facts, Cert.ReferenceIdeal.Gen.facts,
  quiet_kernel, quiet_ideal, quiet_reference, trivial, algebraic⟩

end Cert.Proof

end
